-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S4096x200x1 : Shape := ⟨3, ![4096, 200, 1]⟩
abbrev S4096 : Shape := ⟨1, ![4096]⟩
abbrev S91x16 : Shape := ⟨2, ![91, 16]⟩
abbrev S1x8 : Shape := ⟨2, ![1, 8]⟩
abbrev S8 : Shape := ⟨1, ![8]⟩
abbrev S1x4 : Shape := ⟨2, ![1, 4]⟩
abbrev S4 : Shape := ⟨1, ![4]⟩
abbrev S28x64 : Shape := ⟨2, ![28, 64]⟩
abbrev S64 : Shape := ⟨1, ![64]⟩
abbrev S_ : Shape := ⟨0, ![]⟩

class Facts : Prop where
  bcast_S_S4096x200x1 : S_.BroadcastsInDim S4096x200x1 (![] : Fin 0 → Fin S4096x200x1.rank)
  bcast_S_S91x16 : S_.BroadcastsInDim S91x16 (![] : Fin 0 → Fin S91x16.rank)
  bcast_S_S1x8 : S_.BroadcastsInDim S1x8 (![] : Fin 0 → Fin S1x8.rank)
  bcast_S_S8 : S_.BroadcastsInDim S8 (![] : Fin 0 → Fin S8.rank)
  bcast_S_S1x4 : S_.BroadcastsInDim S1x4 (![] : Fin 0 → Fin S1x4.rank)
  bcast_S_S4 : S_.BroadcastsInDim S4 (![] : Fin 0 → Fin S4.rank)
  bcast_S_S28x64 : S_.BroadcastsInDim S28x64 (![] : Fin 0 → Fin S28x64.rank)
  bcast_S_S64 : S_.BroadcastsInDim S64 (![] : Fin 0 → Fin S64.rank)

variable [Facts]

def fn_part1 {F : FTy → Type} [FloatOps F] (main_arg7 : FVec F S1x4 .f32) (main_arg8 : FVec F S4 .f32) (main_arg9 : FVec F S28x64 .f32) (main_arg10 : FVec F S64 .f32) (main_arg11 : FVec F S_ .f32) (main_v4 : IVec S4096x200x1 1) (main_v7 : IVec S4096x200x1 1) (main_v10 : IVec S4096x200x1 1) (main_v13 : IVec S91x16 1) (main_v16 : IVec S1x8 1) (main_v17 : FVec F S8 .f32) : IVec S4096x200x1 1 × IVec S4096x200x1 1 × IVec S4096x200x1 1 × IVec S91x16 1 × IVec S1x8 1 × IVec S8 1 × IVec S1x4 1 × IVec S4 1 × IVec S28x64 1 × IVec S64 1 × IVec S_ 1 :=
  let main_cst_4 : FVec F S_ .f32 := constant S_ .f32 0x7F800000#32
  let main_v18 : FVec F S8 .f32 := broadcastInDim S8 ![] bcast_S_S8 main_cst_4
  let main_v19 : IVec S8 1 := cmpf .olt main_v17 main_v18
  let main_v20 : FVec F S1x4 .f32 := Host.absf main_arg7
  let main_cst_5 : FVec F S_ .f32 := constant S_ .f32 0x7F800000#32
  let main_v21 : FVec F S1x4 .f32 := broadcastInDim S1x4 ![] bcast_S_S1x4 main_cst_5
  let main_v22 : IVec S1x4 1 := cmpf .olt main_v20 main_v21
  let main_v23 : FVec F S4 .f32 := Host.absf main_arg8
  let main_cst_6 : FVec F S_ .f32 := constant S_ .f32 0x7F800000#32
  let main_v24 : FVec F S4 .f32 := broadcastInDim S4 ![] bcast_S_S4 main_cst_6
  let main_v25 : IVec S4 1 := cmpf .olt main_v23 main_v24
  let main_v26 : FVec F S28x64 .f32 := Host.absf main_arg9
  let main_cst_7 : FVec F S_ .f32 := constant S_ .f32 0x7F800000#32
  let main_v27 : FVec F S28x64 .f32 := broadcastInDim S28x64 ![] bcast_S_S28x64 main_cst_7
  let main_v28 : IVec S28x64 1 := cmpf .olt main_v26 main_v27
  let main_v29 : FVec F S64 .f32 := Host.absf main_arg10
  let main_cst_8 : FVec F S_ .f32 := constant S_ .f32 0x7F800000#32
  let main_v30 : FVec F S64 .f32 := broadcastInDim S64 ![] bcast_S_S64 main_cst_8
  let main_v31 : IVec S64 1 := cmpf .olt main_v29 main_v30
  let main_v32 : FVec F S_ .f32 := Host.absf main_arg11
  let main_cst_9 : FVec F S_ .f32 := constant S_ .f32 0x7F800000#32
  let main_v33 : IVec S_ 1 := cmpf .olt main_v32 main_cst_9
  (main_v4, main_v7, main_v10, main_v13, main_v16, main_v19, main_v22, main_v25, main_v28, main_v31, main_v33)

def fn {F : FTy → Type} [FloatOps F] (main_arg0 : IVec S4096x200x1 32) (main_arg1 : FVec F S4096x200x1 .f32) (main_arg2 : FVec F S4096x200x1 .f32) (main_arg3 : IVec S4096 32) (main_arg4 : FVec F S91x16 .f32) (main_arg5 : FVec F S1x8 .f32) (main_arg6 : FVec F S8 .f32) (main_arg7 : FVec F S1x4 .f32) (main_arg8 : FVec F S4 .f32) (main_arg9 : FVec F S28x64 .f32) (main_arg10 : FVec F S64 .f32) (main_arg11 : FVec F S_ .f32) (main_arg12 : FVec F S64 .f32) (main_arg13 : FVec F S64 .f32) : IVec S4096x200x1 1 × IVec S4096x200x1 1 × IVec S4096x200x1 1 × IVec S91x16 1 × IVec S1x8 1 × IVec S8 1 × IVec S1x4 1 × IVec S4 1 × IVec S28x64 1 × IVec S64 1 × IVec S_ 1 :=
  let main_c : IVec S_ 32 := constantI S_ 32 0#32
  let main_v0 : IVec S4096x200x1 32 := broadcastInDim S4096x200x1 ![] bcast_S_S4096x200x1 main_c
  let main_v1 : IVec S4096x200x1 1 := cmpi .sge main_arg0 main_v0
  let main_c_0 : IVec S_ 32 := constantI S_ 32 91#32
  let main_v2 : IVec S4096x200x1 32 := broadcastInDim S4096x200x1 ![] bcast_S_S4096x200x1 main_c_0
  let main_v3 : IVec S4096x200x1 1 := cmpi .slt main_arg0 main_v2
  let main_v4 : IVec S4096x200x1 1 := andi main_v1 main_v3
  let main_v5 : FVec F S4096x200x1 .f32 := Host.absf main_arg1
  let main_cst : FVec F S_ .f32 := constant S_ .f32 0x7F800000#32
  let main_v6 : FVec F S4096x200x1 .f32 := broadcastInDim S4096x200x1 ![] bcast_S_S4096x200x1 main_cst
  let main_v7 : IVec S4096x200x1 1 := cmpf .olt main_v5 main_v6
  let main_v8 : FVec F S4096x200x1 .f32 := Host.absf main_arg2
  let main_cst_1 : FVec F S_ .f32 := constant S_ .f32 0x7F800000#32
  let main_v9 : FVec F S4096x200x1 .f32 := broadcastInDim S4096x200x1 ![] bcast_S_S4096x200x1 main_cst_1
  let main_v10 : IVec S4096x200x1 1 := cmpf .olt main_v8 main_v9
  let main_v11 : FVec F S91x16 .f32 := Host.absf main_arg4
  let main_cst_2 : FVec F S_ .f32 := constant S_ .f32 0x7F800000#32
  let main_v12 : FVec F S91x16 .f32 := broadcastInDim S91x16 ![] bcast_S_S91x16 main_cst_2
  let main_v13 : IVec S91x16 1 := cmpf .olt main_v11 main_v12
  let main_v14 : FVec F S1x8 .f32 := Host.absf main_arg5
  let main_cst_3 : FVec F S_ .f32 := constant S_ .f32 0x7F800000#32
  let main_v15 : FVec F S1x8 .f32 := broadcastInDim S1x8 ![] bcast_S_S1x8 main_cst_3
  let main_v16 : IVec S1x8 1 := cmpf .olt main_v14 main_v15
  let main_v17 : FVec F S8 .f32 := Host.absf main_arg6
  fn_part1 (F := F) main_arg7 main_arg8 main_arg9 main_arg10 main_arg11 main_v4 main_v7 main_v10 main_v13 main_v16 main_v17
-- ==== Kernel.lean ====
abbrev S4096x200x1 : Shape := ⟨3, ![4096, 200, 1]⟩
abbrev S4096 : Shape := ⟨1, ![4096]⟩
abbrev S91x16 : Shape := ⟨2, ![91, 16]⟩
abbrev S1x8 : Shape := ⟨2, ![1, 8]⟩
abbrev S8 : Shape := ⟨1, ![8]⟩
abbrev S1x4 : Shape := ⟨2, ![1, 4]⟩
abbrev S4 : Shape := ⟨1, ![4]⟩
abbrev S28x64 : Shape := ⟨2, ![28, 64]⟩
abbrev S64 : Shape := ⟨1, ![64]⟩
abbrev S_ : Shape := ⟨0, ![]⟩
abbrev S200x1x4096 : Shape := ⟨3, ![200, 1, 4096]⟩
abbrev S96x16 : Shape := ⟨2, ![96, 16]⟩
abbrev S1 : Shape := ⟨1, ![1]⟩
abbrev S16x64 : Shape := ⟨2, ![16, 64]⟩
abbrev S8x64 : Shape := ⟨2, ![8, 64]⟩
abbrev S1x64 : Shape := ⟨2, ![1, 64]⟩
abbrev S4x64 : Shape := ⟨2, ![4, 64]⟩
abbrev S1x1 : Shape := ⟨2, ![1, 1]⟩
abbrev S64x1 : Shape := ⟨2, ![64, 1]⟩
abbrev S64x4096 : Shape := ⟨2, ![64, 4096]⟩
abbrev S200x64x4096 : Shape := ⟨3, ![200, 64, 4096]⟩
abbrev S8x1x4096 : Shape := ⟨3, ![8, 1, 4096]⟩
abbrev S8x64x4096 : Shape := ⟨3, ![8, 64, 4096]⟩
abbrev S96x64 : Shape := ⟨2, ![96, 64]⟩
abbrev S99x64 : Shape := ⟨2, ![99, 64]⟩
abbrev S1x1x4096 : Shape := ⟨3, ![1, 1, 4096]⟩
abbrev S1x4096 : Shape := ⟨2, ![1, 4096]⟩
abbrev S96x4096 : Shape := ⟨2, ![96, 4096]⟩
abbrev S99x4096 : Shape := ⟨2, ![99, 4096]⟩
abbrev S1x64x4096 : Shape := ⟨3, ![1, 64, 4096]⟩
abbrev S4096x200x64 : Shape := ⟨3, ![4096, 200, 64]⟩

abbrev nBuf : Space → Nat
  | .hbm => 41
  | .vmem => 16
  | .smem => 0
  | _ => 0

abbrev bufTy : (tb : Table) → Fin (tcTables nBuf tb) → BufTy
  | .hbm, ⟨0, _⟩ => ⟨S4096x200x1, .i32⟩
  | .hbm, ⟨1, _⟩ => ⟨S4096x200x1, .f32⟩
  | .hbm, ⟨2, _⟩ => ⟨S4096x200x1, .f32⟩
  | .hbm, ⟨3, _⟩ => ⟨S4096, .i32⟩
  | .hbm, ⟨4, _⟩ => ⟨S91x16, .f32⟩
  | .hbm, ⟨5, _⟩ => ⟨S1x8, .f32⟩
  | .hbm, ⟨6, _⟩ => ⟨S8, .f32⟩
  | .hbm, ⟨7, _⟩ => ⟨S1x4, .f32⟩
  | .hbm, ⟨8, _⟩ => ⟨S4, .f32⟩
  | .hbm, ⟨9, _⟩ => ⟨S28x64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S200x1x4096, .i32⟩
  | .hbm, ⟨15, _⟩ => ⟨S200x1x4096, .f32⟩
  | .hbm, ⟨16, _⟩ => ⟨S200x1x4096, .f32⟩
  | .hbm, ⟨17, _⟩ => ⟨S_, .f32⟩
  | .hbm, ⟨18, _⟩ => ⟨S96x16, .f32⟩
  | .hbm, ⟨19, _⟩ => ⟨S_, .i32⟩
  | .hbm, ⟨20, _⟩ => ⟨S1, .i32⟩
  | .hbm, ⟨21, _⟩ => ⟨S96x16, .f32⟩
  | .hbm, ⟨22, _⟩ => ⟨S16x64, .f32⟩
  | .hbm, ⟨23, _⟩ => ⟨S8x64, .f32⟩
  | .hbm, ⟨24, _⟩ => ⟨S1x64, .f32⟩
  | .hbm, ⟨25, _⟩ => ⟨S4x64, .f32⟩
  | .hbm, ⟨26, _⟩ => ⟨S1x64, .f32⟩
  | .hbm, ⟨27, _⟩ => ⟨S8x64, .f32⟩
  | .hbm, ⟨28, _⟩ => ⟨S64, .f32⟩
  | .hbm, ⟨29, _⟩ => ⟨S4x64, .f32⟩
  | .hbm, ⟨30, _⟩ => ⟨S64, .f32⟩
  | .hbm, ⟨31, _⟩ => ⟨S64, .f32⟩
  | .hbm, ⟨32, _⟩ => ⟨S64, .f32⟩
  | .hbm, ⟨33, _⟩ => ⟨S1x64, .f32⟩
  | .hbm, ⟨34, _⟩ => ⟨S1x1, .f32⟩
  | .hbm, ⟨35, _⟩ => ⟨S64x1, .f32⟩
  | .hbm, ⟨36, _⟩ => ⟨S64x4096, .f32⟩
  | .hbm, ⟨37, _⟩ => ⟨S64x1, .f32⟩
  | .hbm, ⟨38, _⟩ => ⟨S64x4096, .f32⟩
  | .hbm, ⟨39, _⟩ => ⟨S200x64x4096, .f32⟩
  | .hbm, ⟨40, _⟩ => ⟨S4096x200x64, .f32⟩
  | .local _ .vmem, ⟨0, _⟩ => ⟨S8x1x4096, .i32⟩
  | .local _ .vmem, ⟨1, _⟩ => ⟨S8x1x4096, .i32⟩
  | .local _ .vmem, ⟨2, _⟩ => ⟨S8x1x4096, .f32⟩
  | .local _ .vmem, ⟨3, _⟩ => ⟨S8x1x4096, .f32⟩
  | .local _ .vmem, ⟨4, _⟩ => ⟨S8x1x4096, .f32⟩
  | .local _ .vmem, ⟨5, _⟩ => ⟨S8x1x4096, .f32⟩
  | .local _ .vmem, ⟨6, _⟩ => ⟨S96x16, .f32⟩
  | .local _ .vmem, ⟨7, _⟩ => ⟨S16x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x1, .f32⟩
  | .local _ .vmem, ⟨12, _⟩ => ⟨S64x4096, .f32⟩
  | .local _ .vmem, ⟨13, _⟩ => ⟨S64x4096, .f32⟩
  | .local _ .vmem, ⟨14, _⟩ => ⟨S8x64x4096, .f32⟩
  | .local _ .vmem, ⟨15, _⟩ => ⟨S8x64x4096, .f32⟩
  | _, _ => ⟨S4096x200x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8x64x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x200x1 : Shape := ⟨3, ![4096, 200, 1]⟩
abbrev S4096 : Shape := ⟨1, ![4096]⟩
abbrev S91x16 : Shape := ⟨2, ![91, 16]⟩
abbrev S1x8 : Shape := ⟨2, ![1, 8]⟩
abbrev S8 : Shape := ⟨1, ![8]⟩
abbrev S1x4 : Shape := ⟨2, ![1, 4]⟩
abbrev S4 : Shape := ⟨1, ![4]⟩
abbrev S28x64 : Shape := ⟨2, ![28, 64]⟩
abbrev S64 : Shape := ⟨1, ![64]⟩
abbrev S_ : Shape := ⟨0, ![]⟩
abbrev S4096x200x1x1 : Shape := ⟨4, ![4096, 200, 1, 1]⟩
abbrev S1 : Shape := ⟨1, ![1]⟩
abbrev S1x1x1x1 : Shape := ⟨4, ![1, 1, 1, 1]⟩
abbrev S4096x200x1x16 : Shape := ⟨4, ![4096, 200, 1, 16]⟩
abbrev S4096x200x16 : Shape := ⟨3, ![4096, 200, 16]⟩
abbrev S4096x200x8 : Shape := ⟨3, ![4096, 200, 8]⟩
abbrev S1x1x8 : Shape := ⟨3, ![1, 1, 8]⟩
abbrev S4096x200x4 : Shape := ⟨3, ![4096, 200, 4]⟩
abbrev S1x1x4 : Shape := ⟨3, ![1, 1, 4]⟩
abbrev S4096x200x28 : Shape := ⟨3, ![4096, 200, 28]⟩
abbrev S4096x200x64 : Shape := ⟨3, ![4096, 200, 64]⟩
abbrev S1x1x64 : Shape := ⟨3, ![1, 1, 64]⟩
abbrev S4096x200 : Shape := ⟨2, ![4096, 200]⟩

abbrev nBuf : Space → Nat
  | .hbm => 101
  | .vmem => 0
  | .smem => 0
  | _ => 0

abbrev bufTy : (tb : Table) → Fin (tcTables nBuf tb) → BufTy
  | .hbm, ⟨0, _⟩ => ⟨S4096x200x1, .i32⟩
  | .hbm, ⟨1, _⟩ => ⟨S4096x200x1, .f32⟩
  | .hbm, ⟨2, _⟩ => ⟨S4096x200x1, .f32⟩
  | .hbm, ⟨3, _⟩ => ⟨S4096, .i32⟩
  | .hbm, ⟨4, _⟩ => ⟨S91x16, .f32⟩
  | .hbm, ⟨5, _⟩ => ⟨S1x8, .f32⟩
  | .hbm, ⟨6, _⟩ => ⟨S8, .f32⟩
  | .hbm, ⟨7, _⟩ => ⟨S1x4, .f32⟩
  | .hbm, ⟨8, _⟩ => ⟨S4, .f32⟩
  | .hbm, ⟨9, _⟩ => ⟨S28x64, .f32⟩
  | .hbm, ⟨10, _⟩ => ⟨S64, .f32⟩
  | .hbm, ⟨11, _⟩ => ⟨S_, .f32⟩
  | .hbm, ⟨12, _⟩ => ⟨S64, .f32⟩
  | .hbm, ⟨13, _⟩ => ⟨S64, .f32⟩
  | .hbm, ⟨14, _⟩ => ⟨S_, .i32⟩
  | .hbm, ⟨15, _⟩ => ⟨S4096x200x1, .i32⟩
  | .hbm, ⟨16, _⟩ => ⟨S4096x200x1, .i1⟩
  | .hbm, ⟨17, _⟩ => ⟨S_, .i32⟩
  | .hbm, ⟨18, _⟩ => ⟨S4096x200x1, .i32⟩
  | .hbm, ⟨19, _⟩ => ⟨S4096x200x1, .i32⟩
  | .hbm, ⟨20, _⟩ => ⟨S4096x200x1, .i32⟩
  | .hbm, ⟨21, _⟩ => ⟨S4096x200x1x1, .i32⟩
  | .hbm, ⟨22, _⟩ => ⟨S1, .i32⟩
  | .hbm, ⟨23, _⟩ => ⟨S_, .i32⟩
  | .hbm, ⟨24, _⟩ => ⟨S4096x200x1x1, .i32⟩
  | .hbm, ⟨25, _⟩ => ⟨S4096x200x1x1, .i1⟩
  | .hbm, ⟨26, _⟩ => ⟨S1x1x1x1, .i32⟩
  | .hbm, ⟨27, _⟩ => ⟨S4096x200x1x1, .i32⟩
  | .hbm, ⟨28, _⟩ => ⟨S4096x200x1x1, .i1⟩
  | .hbm, ⟨29, _⟩ => ⟨S4096x200x1x1, .i1⟩
  | .hbm, ⟨30, _⟩ => ⟨S_, .i1⟩
  | .hbm, ⟨31, _⟩ => ⟨S4096x200x1, .i1⟩
  | .hbm, ⟨32, _⟩ => ⟨S4096x200x1x16, .f32⟩
  | .hbm, ⟨33, _⟩ => ⟨S4096x200x1x16, .i1⟩
  | .hbm, ⟨34, _⟩ => ⟨S_, .f32⟩
  | .hbm, ⟨35, _⟩ => ⟨S4096x200x1x16, .f32⟩
  | .hbm, ⟨36, _⟩ => ⟨S4096x200x1x16, .f32⟩
  | .hbm, ⟨37, _⟩ => ⟨S4096x200x16, .f32⟩
  | .hbm, ⟨38, _⟩ => ⟨S4096x200x8, .f32⟩
  | .hbm, ⟨39, _⟩ => ⟨S1x1x8, .f32⟩
  | .hbm, ⟨40, _⟩ => ⟨S4096x200x8, .f32⟩
  | .hbm, ⟨41, _⟩ => ⟨S4096x200x8, .f32⟩
  | .hbm, ⟨42, _⟩ => ⟨S4096x200x4, .f32⟩
  | .hbm, ⟨43, _⟩ => ⟨S1x1x4, .f32⟩
  | .hbm, ⟨44, _⟩ => ⟨S4096x200x4, .f32⟩
  | .hbm, ⟨45, _⟩ => ⟨S4096x200x4, .f32⟩
  | .hbm, ⟨46, _⟩ => ⟨S4096x200x28, .f32⟩
  | .hbm, ⟨47, _⟩ => ⟨S4096x200x64, .f32⟩
  | .hbm, ⟨48, _⟩ => ⟨S1x1x64, .f32⟩
  | .hbm, ⟨49, _⟩ => ⟨S4096x200x64, .f32⟩
  | .hbm, ⟨50, _⟩ => ⟨S4096x200x64, .f32⟩
  | .hbm, ⟨51, _⟩ => ⟨S_, .f32⟩
  | .hbm, ⟨52, _⟩ => ⟨S4096x200x64, .f32⟩
  | .hbm, ⟨53, _⟩ => ⟨S4096x200x64, .i1⟩
  | .hbm, ⟨54, _⟩ => ⟨S4096x200x64, .f32⟩
  | .hbm, ⟨55, _⟩ => ⟨S4096x200x64, .f32⟩
  | .hbm, ⟨56, _⟩ => ⟨S4096x200x64, .f32⟩
  | .hbm, ⟨57, _⟩ => ⟨S_, .f32⟩
  | .hbm, ⟨58, _⟩ => ⟨S4096x200, .f32⟩
  | .hbm, ⟨59, _⟩ => ⟨S4096x200x1, .f32⟩
  | .hbm, ⟨60, _⟩ => ⟨S_, .f32⟩
  | .hbm, ⟨61, _⟩ => ⟨S4096x200x1, .f32⟩
  | .hbm, ⟨62, _⟩ => ⟨S4096x200x1, .f32⟩
  | .hbm, ⟨63, _⟩ => ⟨S_, .i32⟩
  | .hbm, ⟨64, _⟩ => ⟨S_, .f32⟩
  | .hbm, ⟨65, _⟩ => ⟨S4096x200, .f32⟩
  | .hbm, ⟨66, _⟩ => ⟨S4096x200x1, .f32⟩
  | .hbm, ⟨67, _⟩ => ⟨S_, .f32⟩
  | .hbm, ⟨68, _⟩ => ⟨S4096x200x1, .f32⟩
  | .hbm, ⟨69, _⟩ => ⟨S4096x200x1, .f32⟩
  | .hbm, ⟨70, _⟩ => ⟨S4096x200x64, .f32⟩
  | .hbm, ⟨71, _⟩ => ⟨S4096x200x64, .f32⟩
  | .hbm, ⟨72, _⟩ => ⟨S4096x200x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S4096x200, .f32⟩
  | .hbm, ⟨78, _⟩ => ⟨S4096x200x1, .f32⟩
  | .hbm, ⟨79, _⟩ => ⟨S4096x200x1, .f32⟩
  | .hbm, ⟨80, _⟩ => ⟨S4096x200x1, .f32⟩
  | .hbm, ⟨81, _⟩ => ⟨S_, .f32⟩
  | .hbm, ⟨82, _⟩ => ⟨S_, .i1⟩
  | .hbm, ⟨83, _⟩ => ⟨S_, .f32⟩
  | .hbm, ⟨84, _⟩ => ⟨S_, .f32⟩
  | .hbm, ⟨85, _⟩ => ⟨S4096x200x1, .f32⟩
  | .hbm, ⟨86, _⟩ => ⟨S4096x200x1, .f32⟩
  | .hbm, ⟨87, _⟩ => ⟨S4096x200x64, .f32⟩
  | .hbm, ⟨88, _⟩ => ⟨S4096x200x64, .f32⟩
  | .hbm, ⟨89, _⟩ => ⟨S_, .f32⟩
  | .hbm, ⟨90, _⟩ => ⟨S4096x200x1, .f32⟩
  | .hbm, ⟨91, _⟩ => ⟨S4096x200x1, .f32⟩
  | .hbm, ⟨92, _⟩ => ⟨S4096x200x1, .f32⟩
  | .hbm, ⟨93, _⟩ => ⟨S4096x200x64, .f32⟩
  | .hbm, ⟨94, _⟩ => ⟨S4096x200x64, .f32⟩
  | .hbm, ⟨95, _⟩ => ⟨S1x1x64, .f32⟩
  | .hbm, ⟨96, _⟩ => ⟨S4096x200x64, .f32⟩
  | .hbm, ⟨97, _⟩ => ⟨S4096x200x64, .f32⟩
  | .hbm, ⟨98, _⟩ => ⟨S1x1x64, .f32⟩
  | .hbm, ⟨99, _⟩ => ⟨S4096x200x64, .f32⟩
  | .hbm, ⟨100, _⟩ => ⟨S4096x200x64, .f32⟩
  | _, _ => ⟨S4096x200x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v0 : Ref sig .tc := ⟨.hbm, 36, rfl⟩
abbrev main_v1 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_cst : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_0 : Ref sig .tc := ⟨.hbm, 57, rfl⟩
abbrev main_v20 : Ref sig .tc := ⟨.hbm, 58, rfl⟩
abbrev main_v21 : Ref sig .tc := ⟨.hbm, 59, rfl⟩
abbrev main_cst_1 : Ref sig .tc := ⟨.hbm, 60, rfl⟩
abbrev main_v22 : Ref sig .tc := ⟨.hbm, 61, rfl⟩
abbrev main_v23 : Ref sig .tc := ⟨.hbm, 62, rfl⟩
abbrev main_c : Ref sig .tc := ⟨.hbm, 63, rfl⟩
abbrev main_call2_cst : Ref sig .tc := ⟨.hbm, 64, rfl⟩
abbrev main_call2_v0 : Ref sig .tc := ⟨.hbm, 65, rfl⟩
abbrev main_call2_v1 : Ref sig .tc := ⟨.hbm, 66, rfl⟩
abbrev main_call2_cst_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_v5 : Ref sig .tc := ⟨.hbm, 71, rfl⟩
abbrev main_call2_v6 : Ref sig .tc := ⟨.hbm, 72, rfl⟩
abbrev main_call2_v7 : Ref sig .tc := ⟨.hbm, 73, rfl⟩
abbrev main_call2_cst_1 : Ref sig .tc := ⟨.hbm, 74, rfl⟩
abbrev main_call2_v8 : Ref sig .tc := ⟨.hbm, 75, rfl⟩
abbrev main_call2_cst_2 : Ref sig .tc := ⟨.hbm, 76, rfl⟩
abbrev main_call2_v9 : Ref sig .tc := ⟨.hbm, 77, rfl⟩
abbrev main_call2_v10 : Ref sig .tc := ⟨.hbm, 78, rfl⟩
abbrev main_call2_v11 : Ref sig .tc := ⟨.hbm, 79, rfl⟩
abbrev main_call2_v12 : Ref sig .tc := ⟨.hbm, 80, rfl⟩
abbrev main_call2_cst_3 : Ref sig .tc := ⟨.hbm, 81, rfl⟩
abbrev main_call2_v13 : Ref sig .tc := ⟨.hbm, 82, rfl⟩
abbrev main_call2_cst_4 : Ref sig .tc := ⟨.hbm, 83, rfl⟩
abbrev main_call2_call0_v0 : Ref sig .tc := ⟨.hbm, 84, rfl⟩
abbrev main_call2_call0_v1 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_cst_2 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩

abbrev nD : Nat := 1
abbrev τ : Topo := Topo.v7x

variable {F : FTy → Type} [FloatOps F]
-- ==== Proof.Token.lean ====
/- One token's sixty-four channels, as the kernel computes them and as the reference does, over the extended reals. -/
module

public import Idealize.ShloMosaic.Lib.Pointwise

@[expose] public section

noncomputable section

namespace Cert.Token

open Idealize.ShloMosaic

/-- Entry `k` of the one-hot vector of the note `n`. -/
def hot (k : Nat) (n : BitVec 32) : EReal := if BitVec.ofNat 32 k = n then 1 else 0

/-- A compare bit, widened and read as a float, is the one-hot entry. -/
theorem hot_eq (k : Nat) (n : BitVec 32) :
    FloatOps.sitofp (F := Ideal) FTy.f32 (BitVec.setWidth 32 (IntOp.cmpi CmpIPredicate.eq (BitVec.ofNat 32 k) n)) = hot k n := by
  unfold hot
  show (((BitVec.setWidth 32 (IntOp.cmpi CmpIPredicate.eq (BitVec.ofNat 32 k) n)).toInt : ℝ) : EReal) = _
  by_cases h : BitVec.ofNat 32 k = n
  · simp [IntOp.cmpi, h]
  · simp [IntOp.cmpi, h, show (BitVec.ofNat 32 k == n) = false from beq_eq_false_iff_ne.mpr h]

/-- The kernel's linear layer at one token and channel: `ft` the fused note table's column, then the onset's, the duration's
    and the bias's fused weights. -/
def kLin (ft : Fin 96 → EReal) (von vdur fb : EReal) (n : BitVec 32) (on du : EReal) : EReal :=
  (∑ k : Fin 96, ft k * hot k n) + von * on + vdur * du + fb * 1

/-- The activation: the value itself where positive, `a` times it elsewhere. -/
def leaky (a z : EReal) : EReal := if 0 < z then z else a * z

/-- The kernel's layer normalisation over the channels `h`, at channel `c`: the reciprocal of 64 as a factor, the variance as the
    mean square less the squared mean. -/
def kNorm (h : Fin 64 → EReal) (g b : EReal) (c : Fin 64) : EReal :=
  (h c - (∑ k, h k) * Ideal.ofBits FTy.f32 0x3C800000#32)
      * (g * Ideal.rsqrt ((∑ k, h k * h k) * Ideal.ofBits FTy.f32 0x3C800000#32
          - (∑ k, h k) * Ideal.ofBits FTy.f32 0x3C800000#32 * ((∑ k, h k) * Ideal.ofBits FTy.f32 0x3C800000#32)
          + Ideal.ofBits FTy.f32 0x3727C5AC#32))
    + b

/-- The kernel's channel `c` at one token. -/
def kOut (ft : Fin 96 → Fin 64 → EReal) (von vdur fb : Fin 64 → EReal) (a : EReal) (n : BitVec 32) (on du g b : EReal) (c : Fin 64) :
    EReal :=
  kNorm (fun k => leaky a (kLin (fun r => ft r k) (von k) (vdur k) (fb k) n on du)) g b c

/-- The reference's linear layer at one token and channel: the note's row `t` of the table, the onset's and the duration's
    embeddings, each through its rows of the dense weights `w`, and the dense bias. -/
def rLin (t : Fin 16 → EReal) (ow ob : Fin 8 → EReal) (dw db : Fin 4 → EReal) (w : Fin 28 → EReal) (bias on du : EReal) : EReal :=
  (∑ k : Fin 16, t k * w ⟨k, by omega⟩) + (∑ k : Fin 8, (on * ow k + ob k) * w ⟨16 + k, by omega⟩)
    + (∑ k : Fin 4, (du * dw k + db k) * w ⟨24 + k, by omega⟩) + bias

/-- The reference's layer normalisation over the channels `h`, at channel `c`: the mean and the mean squared deviation as quotients
    by 64, the deviation over the square root. -/
def rNorm (h : Fin 64 → EReal) (g b : EReal) (c : Fin 64) : EReal :=
  Ideal.div (h c - Ideal.div (∑ k, h k) ((64 : ℝ) : EReal))
      (Ideal.sqrt (Ideal.div (∑ k, (h k - Ideal.div (∑ k, h k) ((64 : ℝ) : EReal)) * (h k - Ideal.div (∑ k, h k) ((64 : ℝ) : EReal)))
          ((64 : ℝ) : EReal) + Ideal.ofBits FTy.f32 0x3727C5AC#32))
    * g + b

/-- The word 0x42800000 is 64. -/
theorem bits_64 : Ideal.ofBits FTy.f32 0x42800000#32 = ((64 : ℝ) : EReal) := by
  simp [Ideal.ofBits, Ideal.ieee, -EReal.coe_mul]
  norm_num

/-- The word 0x3C800000 is a sixty-fourth. -/
theorem bits_64th : Ideal.ofBits FTy.f32 0x3C800000#32 = ((1 / 64 : ℝ) : EReal) := by
  simp [Ideal.ofBits, Ideal.ieee, -EReal.coe_mul]
  norm_num

/-- The word 0x3727C5AC, added to the variance, is a positive real. -/
theorem bits_eps : ∃ e : ℝ, 0 < e ∧ Ideal.ofBits FTy.f32 0x3727C5AC#32 = (e : EReal) := by
  refine ⟨10995116 * (2 : ℝ) ^ (-40 : ℤ), by positivity, ?_⟩
  simp [Ideal.ofBits, Ideal.ieee, -EReal.coe_mul]

end Cert.Token

end
-- ==== Proof.Tile.lean ====
/- What one grid point writes: the kernel's block of the output, one row of 4096 tokens at a time. -/
module

public import proofs.«01_k».proof.Proof.Gen.KernelIdeal
public import proofs.«01_k».proof.Proof.Gen.KernelIdeal.Skeleton
public import proofs.«01_k».proof.Proof.Gen.KernelIdeal.Frame
public import Idealize.ShloMosaic.Lib.Pipeline.ValueKit.Tiles
public import Idealize.ShloMosaic.Lib.Pointwise
public import proofs.«01_k».proof.Proof.Token

@[expose] public section

set_option maxRecDepth 16384

noncomputable section

namespace Cert.KernelIdeal.Tile

open Cert.KernelIdeal Cert.KernelIdeal.Gen Idealize.ShloMosaic Idealize.ShloMosaic.TcCoe Cert.Token

variable {F : FTy → Type} [FloatOps F]

/-- The columns the fused weights meet: the one-hot note over the onset, the duration and a one. -/
def feats (n : Vec F S1x1x4096 .i32) (on du : Vec F S1x1x4096 .f32) : FVec F S99x4096 .f32 :=
  concatenate S99x4096 0
    [⟨S96x4096, sitofp .f32 (extui 32 (cmpi .eq (iota .tc S96x4096 32 [0] iota_S96x4096_d0_w32)
        (broadcastTo S96x4096 (shapeCast S1x4096 n shapeCasts_S1x1x4096_S1x4096) broadcasts_S1x4096_S96x4096)) natLt_1_32)⟩,
      ⟨S1x4096, shapeCast S1x4096 on shapeCasts_S1x1x4096_S1x4096⟩,
      ⟨S1x4096, shapeCast S1x4096 du shapeCasts_S1x1x4096_S1x4096⟩,
      ⟨S1x4096, broadcast S1x4096 (Scalar.ofBits .f32 0x3F800000#32)⟩]
    concatenates_S96x4096_S1x4096_S1x4096_S1x4096_S99x4096_d0

/-- The linear layer of one row of tokens. -/
def lin (W : FVec F S99x64 .f32) (n : Vec F S1x1x4096 .i32) (on du : Vec F S1x1x4096 .f32) : FVec F S64x4096 .f32 :=
  matmul dot_S99x64_S99x4096_S64x4096_0_0_1_1_n_n none W (feats n on du) (constant S64x4096 .f32 0x00000000#32)

/-- The leaky activation with slope `a` on the negative side. -/
def act (a : F .f32) (y : FVec F S64x4096 .f32) : FVec F S64x4096 .f32 :=
  select (cmpf .ogt y (broadcast S64x4096 (Scalar.ofBits .f32 0x00000000#32))) y (mulf (broadcast S64x4096 a) y)

/-- The mean over the channels. -/
def mean (y : FVec F S64x4096 .f32) : FVec F S1x4096 .f32 :=
  mulf (shapeCast S1x4096 (multiReduction .add [0] S4096 y 0x00000000#32 reduces_S64x4096_S4096 (.inl rfl) rfl) shapeCasts_S4096_S1x4096)
    (broadcast S1x4096 (Scalar.ofBits .f32 0x3C800000#32))

/-- The normalised row, scaled by `g` and shifted by `b`. -/
def norm (y g b : FVec F S64x4096 .f32) : FVec F S64x4096 .f32 :=
  addf (mulf (subf y (broadcastTo S64x4096 (mean y) broadcasts_S1x4096_S64x4096))
      (mulf (shapeCast S64x4096 g shapeCasts_S64x4096_S64x4096)
        (broadcastTo S64x4096 (rsqrt (addf (subf (mean (mulf y y)) (mulf (mean y) (mean y)))
          (broadcast S1x4096 (Scalar.ofBits .f32 0x3727C5AC#32)))) broadcasts_S1x4096_S64x4096)))
    (shapeCast S64x4096 b shapeCasts_S64x4096_S64x4096)

/-- One row of the output block, as it is stored. -/
def row (W : FVec F S99x64 .f32) (a : F .f32) (n : Vec F S1x1x4096 .i32) (on du : Vec F S1x1x4096 .f32)
    (g b : FVec F S64x4096 .f32) : FVec F S1x64x4096 .f32 :=
  shapeCast S1x64x4096 (norm (act a (lin W n on du)) g b) shapeCasts_S64x4096_S1x64x4096

/-- The eight stores of the body are the one row function of the block's eight rows. -/
theorem out0_11_rows (x0 : Vec F S8x1x4096 .i32) (x1 x2 : Vec F S8x1x4096 .f32) (x3 : Vec F S96x16 .f32)
    (x4 : Vec F S16x64 .f32) (x5 x6 x7 : Vec F S1x64 .f32) (x8 : Vec F S1x1 .f32) (x9 x10 : Vec F S64x4096 .f32) :
    out0_11 x0 x1 x2 x3 x4 x5 x6 x7 x8 x9 x10 =
      (let r := fun n on du => row (k0_pay2 (View.ld x3 r0_0) (View.ld x4 r0_1) (View.ld x5 r0_2) (View.ld x6 r0_2) (View.ld x7 r0_2))
        (k0_pay3 (View.ld x8 r0_3)) n on du (View.ld x9 r0_5) (View.ld x10 r0_5)
      View.canon [⟨r0_20, r (View.ld x0 r0_19) (View.ld x1 r0_19) (View.ld x2 r0_19)⟩,
        ⟨r0_18, r (View.ld x0 r0_17) (View.ld x1 r0_17) (View.ld x2 r0_17)⟩,
        ⟨r0_16, r (View.ld x0 r0_15) (View.ld x1 r0_15) (View.ld x2 r0_15)⟩,
        ⟨r0_14, r (View.ld x0 r0_13) (View.ld x1 r0_13) (View.ld x2 r0_13)⟩,
        ⟨r0_12, r (View.ld x0 r0_11) (View.ld x1 r0_11) (View.ld x2 r0_11)⟩,
        ⟨r0_10, r (View.ld x0 r0_9) (View.ld x1 r0_9) (View.ld x2 r0_9)⟩,
        ⟨r0_8, r (View.ld x0 r0_7) (View.ld x1 r0_7) (View.ld x2 r0_7)⟩,
        ⟨r0_6, r (View.ld x0 r0_4) (View.ld x1 r0_4) (View.ld x2 r0_4)⟩]) := rfl

/-- A row of the linear layer at one token: the one-hot sum over the fused table, the two scalar features and the bias. -/
theorem lin_apply (W : FVec Ideal S99x64 .f32) (n : Vec Ideal S1x1x4096 .i32) (on du : Vec Ideal S1x1x4096 .f32)
    (c : Fin 64) (q : Fin 4096) :
    lin W n on du (ix2 c q) = kLin (fun k => W (ix2 (Fin.castLE (by decide) k) c)) (W (ix2 96 c)) (W (ix2 97 c)) (W (ix2 98 c))
      (n (ix3 0 0 q)) (on (ix3 0 0 q)) (du (ix3 0 0 q)) := by
  pointwise [lin, feats]
  rw [Fin.sum_univ_castSucc, Fin.sum_univ_castSucc, Fin.sum_univ_castSucc]
  unfold kLin
  refine congrArg₂ _ (congrArg₂ _ (congrArg₂ _ (Finset.sum_congr rfl fun k _ => ?_) ?_) ?_) ?_
  · have hk : ((k.castSucc.castSucc.castSucc : Fin 99) : Nat) < 96 := k.isLt
    refine (congrArg (W (ix2 k.castSucc.castSucc.castSucc c) * ·) (dif_pos hk)).trans ?_
    rw [← hot_eq]
    rfl
  all_goals rfl

/-- The normalised row at one token. -/
theorem norm_apply (y g b : FVec Ideal S64x4096 .f32) (c : Fin 64) (q : Fin 4096) :
    norm y g b (ix2 c q) = kNorm (fun k => y (ix2 k q)) (g (ix2 c q)) (b (ix2 c q)) c := by
  pointwise [norm, mean]
  rfl

/-- The activation at one token. -/
theorem act_apply (a : EReal) (y : FVec Ideal S64x4096 .f32) (c : Fin 64) (q : Fin 4096) :
    act (F := Ideal) a y (ix2 c q) = leaky a (y (ix2 c q)) := by
  pointwise [act]
  rfl

/-- A stored row at one token is the normalised activation of the linear layer there. -/
theorem row_apply (W : FVec Ideal S99x64 .f32) (a : EReal) (n : Vec Ideal S1x1x4096 .i32) (on du : Vec Ideal S1x1x4096 .f32)
    (g b : FVec Ideal S64x4096 .f32) (u : Fin 1) (c : Fin 64) (q : Fin 4096) :
    row (F := Ideal) W a n on du g b (ix3 u c q) = norm (act a (lin W n on du)) g b (ix2 c q) := by
  pointwise [row]

/-- The fused weights' note rows. -/
theorem weights_note (v0 : Vec Ideal S96x16 .f32) (v2 : Vec Ideal S16x64 .f32) (v5 v7 v9 : Vec Ideal S1x64 .f32)
    (k : Fin 96) (c : Fin 64) :
    k0_pay2 v0 v2 v5 v7 v9 (ix2 (Fin.castLE (by decide) k) c) = ∑ d : Fin 16, v0 (ix2 k d) * v2 (ix2 d c) := by
  pointwise [k0_pay2]
  exact dif_pos (show ((Fin.castLE (by decide : 96 ≤ 99) k : Fin 99) : Nat) < 96 from k.isLt)

/-- The fused weights' onset row. -/
theorem weights_onset (v0 : Vec Ideal S96x16 .f32) (v2 : Vec Ideal S16x64 .f32) (v5 v7 v9 : Vec Ideal S1x64 .f32) (c : Fin 64) :
    k0_pay2 v0 v2 v5 v7 v9 (ix2 96 c) = v5 (ix2 0 c) := by
  pointwise [k0_pay2]

/-- The fused weights' duration row. -/
theorem weights_dur (v0 : Vec Ideal S96x16 .f32) (v2 : Vec Ideal S16x64 .f32) (v5 v7 v9 : Vec Ideal S1x64 .f32) (c : Fin 64) :
    k0_pay2 v0 v2 v5 v7 v9 (ix2 97 c) = v7 (ix2 0 c) := by
  pointwise [k0_pay2]

/-- The fused weights' bias row. -/
theorem weights_bias (v0 : Vec Ideal S96x16 .f32) (v2 : Vec Ideal S16x64 .f32) (v5 v7 v9 : Vec Ideal S1x64 .f32) (c : Fin 64) :
    k0_pay2 v0 v2 v5 v7 v9 (ix2 98 c) = v9 (ix2 0 c) := by
  pointwise [k0_pay2]

/-- The slope read out of its one-element block. -/
theorem slope_eq (v : Vec Ideal S1x1 .f32) : k0_pay3 v = v (ix2 0 0) := by
  pointwise [k0_pay3]

/-- The value of the block at row `l`, channel `c`, token `q`. -/
def blockAt (x0 : Vec Ideal S8x1x4096 .i32) (x1 x2 : Vec Ideal S8x1x4096 .f32) (x3 : Vec Ideal S96x16 .f32)
    (x4 : Vec Ideal S16x64 .f32) (x5 x6 x7 : Vec Ideal S1x64 .f32) (x8 : Vec Ideal S1x1 .f32) (x9 x10 : Vec Ideal S64x4096 .f32)
    (l : Fin 8) (c : Fin 64) (q : Fin 4096) : EReal :=
  kOut (fun k c => ∑ d : Fin 16, x3 (ix2 k d) * x4 (ix2 d c)) (fun c => x5 (ix2 0 c)) (fun c => x6 (ix2 0 c)) (fun c => x7 (ix2 0 c))
    (x8 (ix2 0 0)) (x0 (ix3 l 0 q)) (x1 (ix3 l 0 q)) (x2 (ix3 l 0 q)) (x9 (ix2 c q)) (x10 (ix2 c q)) c

/-- One stored row, at any index of the row, is the block's value at the row it is stored in. -/
theorem row_block (x0 : Vec Ideal S8x1x4096 .i32) (x1 x2 : Vec Ideal S8x1x4096 .f32) (x3 : Vec Ideal S96x16 .f32)
    (x4 : Vec Ideal S16x64 .f32) (x5 x6 x7 : Vec Ideal S1x64 .f32) (x8 : Vec Ideal S1x1 .f32) (x9 x10 : Vec Ideal S64x4096 .f32)
    (l : Nat) (hl : l < 8) (h : ∀ a, (![l, 0, 0] : Fin 3 → Nat) a + S1x1x4096.size a ≤ S8x1x4096.size a)
    (x : S1x64x4096.Idx) (y : S8x64x4096.Idx) (h0 : (y 0).val = l + (x 0).val) (h1 : (y 1).val = (x 1).val) (h2 : (y 2).val = (x 2).val) :
    row (k0_pay2 (View.ld x3 r0_0) (View.ld x4 r0_1) (View.ld x5 r0_2) (View.ld x6 r0_2) (View.ld x7 r0_2))
        (k0_pay3 (View.ld x8 r0_3)) (View.ld x0 (Rect.unit ![l, 0, 0] S1x1x4096.size h)) (View.ld x1 (Rect.unit ![l, 0, 0] S1x1x4096.size h))
        (View.ld x2 (Rect.unit ![l, 0, 0] S1x1x4096.size h)) (View.ld x9 r0_5) (View.ld x10 r0_5) x
      = blockAt x0 x1 x2 x3 x4 x5 x6 x7 x8 x9 x10 (y 0) (y 1) (y 2) := by
  obtain ⟨u, c, q, rfl⟩ : ∃ (u : Fin 1) (c : Fin 64) (q : Fin 4096), x = ix3 u c q := ⟨x 0, x 1, x 2, eq_ix3 x⟩
  obtain ⟨l', c', q', rfl⟩ : ∃ (u : Fin 8) (c : Fin 64) (q : Fin 4096), y = ix3 u c q := ⟨y 0, y 1, y 2, eq_ix3 y⟩
  obtain rfl : c' = c := Fin.ext h1
  obtain rfl : q' = q := Fin.ext h2
  have hl' : l'.val = l := by
    have : l'.val = l + u.val := h0
    omega
  have z2 : (![0, 0] : Fin 2 → Nat) = fun _ => 0 := by decide
  have e : ∀ {e : EltTy} (X : Vec Ideal S8x1x4096 e),
      View.ld X (Rect.unit ![l, 0, 0] S1x1x4096.size h) (ix3 0 0 q') = X (ix3 l' 0 q') := fun X =>
    View.ld_unit_apply_of X _ _ h _ _ fun a => match a with
      | ⟨0, _⟩ => hl'
      | ⟨1, _⟩ => rfl
      | ⟨2, _⟩ => (Nat.zero_add _).symm
  have e3 : View.ld x3 r0_0 = x3 := View.ld_unit_zero z2 _ x3
  have e4 : View.ld x4 r0_1 = x4 := View.ld_unit_zero z2 _ x4
  have e5 : ∀ X : Vec Ideal S1x64 .f32, View.ld X r0_2 = X := fun X => View.ld_unit_zero z2 _ X
  have e8 : View.ld x8 r0_3 = x8 := View.ld_unit_zero z2 _ x8
  have e9 : ∀ X : Vec Ideal S64x4096 .f32, View.ld X r0_5 = X := fun X => View.ld_unit_zero z2 _ X
  rw [e3, e4, e5, e5, e5, e8, e9, e9, row_apply, norm_apply]
  have en := e x0
  have eo := e x1
  have ed := e x2
  generalize View.ld x0 (Rect.unit ![l, 0, 0] S1x1x4096.size h) = n at en ⊢
  generalize View.ld x1 (Rect.unit ![l, 0, 0] S1x1x4096.size h) = on at eo ⊢
  generalize View.ld x2 (Rect.unit ![l, 0, 0] S1x1x4096.size h) = du at ed ⊢
  simp only [act_apply, lin_apply, weights_note, weights_onset, weights_dur, weights_bias, en, eo, ed, slope_eq]
  rfl

/-- What the body leaves in the output block. -/
theorem out_apply (x0 : Vec Ideal S8x1x4096 .i32) (x1 x2 : Vec Ideal S8x1x4096 .f32) (x3 : Vec Ideal S96x16 .f32)
    (x4 : Vec Ideal S16x64 .f32) (x5 x6 x7 : Vec Ideal S1x64 .f32) (x8 : Vec Ideal S1x1 .f32) (x9 x10 : Vec Ideal S64x4096 .f32)
    (y : S8x64x4096.Idx) :
    out0_11 x0 x1 x2 x3 x4 x5 x6 x7 x8 x9 x10 y = blockAt x0 x1 x2 x3 x4 x5 x6 x7 x8 x9 x10 (y 0) (y 1) (y 2) := by
  rw [out0_11_rows]
  dsimp only
  canon_tiles x h using cover0_11 ..
  · exact row_block _ _ _ _ _ _ _ _ _ _ _ 7 (by decide) _ x y h0 h1 h2
  · exact row_block _ _ _ _ _ _ _ _ _ _ _ 6 (by decide) _ x y h0 h1 h2
  · exact row_block _ _ _ _ _ _ _ _ _ _ _ 5 (by decide) _ x y h0 h1 h2
  · exact row_block _ _ _ _ _ _ _ _ _ _ _ 4 (by decide) _ x y h0 h1 h2
  · exact row_block _ _ _ _ _ _ _ _ _ _ _ 3 (by decide) _ x y h0 h1 h2
  · exact row_block _ _ _ _ _ _ _ _ _ _ _ 2 (by decide) _ x y h0 h1 h2
  · exact row_block _ _ _ _ _ _ _ _ _ _ _ 1 (by decide) _ x y h0 h1 h2
  · exact row_block _ _ _ _ _ _ _ _ _ _ _ 0 (by decide) _ x y (by omega) h1 h2

end Cert.KernelIdeal.Tile

end
-- ==== Proof.HostIn.lean ====
/- What the host operations before the kernel's launch leave in the arrays the launch reads, element by element. -/
module

public import proofs.«01_k».proof.Proof.Gen.KernelIdeal.Frame
public import Idealize.ShloMosaic.Lib.StableHlo.ReadAt
public import Idealize.ShloMosaic.Lib.Pointwise
public import Idealize.ShloMosaic.Lib.Routing.OpsSet

@[expose] public section

set_option maxRecDepth 16384

noncomputable section

namespace Cert.KernelIdeal.HostIn

open Cert.KernelIdeal Cert.KernelIdeal.Gen Idealize.ShloMosaic Idealize.ShloMosaic.TcCoe Idealize.SL.Sem

variable (m : (ℓ : Loc nD τ sig) → Buf (Elt Ideal) ℓ) (c : Dev nD)

/-! The arguments as launched, each at its own shape. -/

/-- The notes. -/
abbrev notes : IVec S4096x200x1 32 := m ((c.tc : Thread nD τ).loc main_arg0)
/-- The onsets. -/
abbrev onsets : FVec Ideal S4096x200x1 .f32 := m ((c.tc : Thread nD τ).loc main_arg1)
/-- The durations. -/
abbrev durations : FVec Ideal S4096x200x1 .f32 := m ((c.tc : Thread nD τ).loc main_arg2)
/-- The table of note embeddings. -/
abbrev table : FVec Ideal S91x16 .f32 := m ((c.tc : Thread nD τ).loc main_arg4)
/-- The onset projection's weights. -/
abbrev onsetW : FVec Ideal S1x8 .f32 := m ((c.tc : Thread nD τ).loc main_arg5)
/-- The onset projection's bias. -/
abbrev onsetB : FVec Ideal S8 .f32 := m ((c.tc : Thread nD τ).loc main_arg6)
/-- The duration projection's weights. -/
abbrev durW : FVec Ideal S1x4 .f32 := m ((c.tc : Thread nD τ).loc main_arg7)
/-- The duration projection's bias. -/
abbrev durB : FVec Ideal S4 .f32 := m ((c.tc : Thread nD τ).loc main_arg8)
/-- The dense layer's weights. -/
abbrev denseW : FVec Ideal S28x64 .f32 := m ((c.tc : Thread nD τ).loc main_arg9)
/-- The dense layer's bias. -/
abbrev denseB : FVec Ideal S64 .f32 := m ((c.tc : Thread nD τ).loc main_arg10)
/-- The slope of the leaky rectifier. -/
abbrev slope : FVec Ideal S_ .f32 := m ((c.tc : Thread nD τ).loc main_arg11)
/-- The layer norm's scale. -/
abbrev gamma : FVec Ideal S64 .f32 := m ((c.tc : Thread nD τ).loc main_arg12)
/-- The layer norm's shift. -/
abbrev beta : FVec Ideal S64 .f32 := m ((c.tc : Thread nD τ).loc main_arg13)

/-- A row of the dense layer's weights that meets note feature `k`. -/
abbrev noteRow (k : Fin 16) : Fin 28 := ⟨k, by omega⟩
/-- A row of the dense layer's weights that meets onset feature `k`. -/
abbrev onsetRow (k : Fin 8) : Fin 28 := ⟨16 + k, by omega⟩
/-- A row of the dense layer's weights that meets duration feature `k`. -/
abbrev durRow (k : Fin 4) : Fin 28 := ⟨24 + k, by omega⟩

/-- The notes reach the launch with the token's position first and its sequence last. -/
theorem notes_at (l : Fin 200) (b : Fin 4096) :
    V m c main_v0 (ix3 l 0 b) = notes m c (ix3 b l 0) := by
  unfold V V0
  simp only [hostOps0]
  after_reads_at

/-- So do the onsets. -/
theorem onsets_at (l : Fin 200) (b : Fin 4096) :
    V m c main_v1 (ix3 l 0 b) = onsets m c (ix3 b l 0) := by
  unfold V V0
  simp only [hostOps0]
  after_reads_at

/-- So do the durations. -/
theorem durations_at (l : Fin 200) (b : Fin 4096) :
    V m c main_v2 (ix3 l 0 b) = durations m c (ix3 b l 0) := by
  unfold V V0
  simp only [hostOps0]
  after_reads_at

/-- The first sixteen rows of the dense weights are handed over as they are. -/
theorem weights_at (k : Fin 16) (j : Fin 64) :
    V m c main_v6 (ix2 k j) = denseW m c (ix2 (noteRow k) j) := by
  unfold V V0
  simp only [hostOps0]
  after_reads_at

/-- The onset's row: the onset weights taken through their rows of the dense weights. -/
theorem onset_row_at (j : Fin 64) :
    (V m c main_v8 (ix2 0 j) : EReal) = ∑ x : Fin 8, onsetW m c (ix2 0 x) * denseW m c (ix2 (onsetRow x) j) := by
  unfold V V0
  simp only [hostOps0]
  after_reads_at

/-- The duration's row: the duration weights taken through their rows of the dense weights. -/
theorem dur_row_at (j : Fin 64) :
    (V m c main_v10 (ix2 0 j) : EReal) = ∑ x : Fin 4, durW m c (ix2 0 x) * denseW m c (ix2 (durRow x) j) := by
  unfold V V0
  simp only [hostOps0]
  after_reads_at

/-- The bias row: the two projections' biases taken through the dense weights, and the dense bias. -/
theorem bias_row_at (j : Fin 64) :
    (V m c main_v17 (ix2 0 j) : EReal)
      = ∑ x : Fin 8, onsetB m c (ix1 x) * denseW m c (ix2 (onsetRow x) j)
        + ∑ x : Fin 4, durB m c (ix1 x) * denseW m c (ix2 (durRow x) j) + denseB m c (ix1 j) := by
  unfold V V0
  simp only [hostOps0]
  after_reads_at

/-- The slope as a one by one matrix. -/
theorem slope_at : V m c main_v18 (ix2 0 0) = slope m c ix0 := by
  unfold V V0
  simp only [hostOps0]
  after_reads_at

/-- The scale copied along the sequences. -/
theorem gamma_at (j : Fin 64) (q : Fin 4096) : V m c main_v20 (ix2 j q) = gamma m c (ix1 j) := by
  unfold V V0
  simp only [hostOps0]
  after_reads_at

/-- The shift copied along the sequences. -/
theorem beta_at (j : Fin 64) (q : Fin 4096) : V m c main_v22 (ix2 j q) = beta m c (ix1 j) := by
  unfold V V0
  simp only [hostOps0]
  after_reads_at

/-- Writing a 91 by 16 matrix into a 96 by 16 one at row zero puts element `(i, e)` at row `i`, column `e`. -/
theorem pad_lands (idx : IVec S1 32) (hidx : ∀ j, idx j = 0#32) (i : Fin 91) (e : Fin 16) (k : Fin 96) (d : Fin 16) :
    scatter_S96x16_S1_S91x16_01_n_0_0.resultIdx? (ix2 i e) idx = some (ix2 k d) ↔ i.val = k.val ∧ e.val = d.val := by
  refine (Routing.resultIdx?_ix2 scatter_S96x16_S1_S91x16_01_n_0_0 (ix2 i e) idx k d).trans ?_
  have s0 : scatter_S96x16_S1_S91x16_01_n_0_0.start (ix2 i e) idx 0 = 0 := by
    refine (dif_pos (show (0 : Fin 2) ∈ scatter_S96x16_S1_S91x16_01_n_0_0.scatterDimsToOperandDims from List.mem_singleton.mpr rfl)).trans ?_
    rw [hidx]
    rfl
  have s1 : scatter_S96x16_S1_S91x16_01_n_0_0.start (ix2 i e) idx 1 = 0 := rfl
  have w0 : scatter_S96x16_S1_S91x16_01_n_0_0.window (ix2 i e) 0 = i.val := rfl
  have w1 : scatter_S96x16_S1_S91x16_01_n_0_0.window (ix2 i e) 1 = e.val := rfl
  rw [s0, s1, w0, w1]
  omega

/-- The padded table's first 91 rows are the table's. -/
theorem table_at (k : Fin 96) (hk : k.val < 91) (d : Fin 16) :
    V m c main_v5 (ix2 k d) = table m c (ix2 ⟨k, hk⟩ d) := by
  unfold V V0
  simp only [hostOps0]
  after_reads_at
  have hidx : ∀ j, broadcastInDim S1 ![] bcast_S_S1 (constantI S_ 32 0#32) j = 0#32 := fun _ => rfl
  refine Routing.scatter_set_hit _ _ _ _ _ _ (fun u hu => ?_) (ix2 ⟨k, hk⟩ d) ((pad_lands _ hidx _ _ _ _).2 ⟨rfl, rfl⟩)
  obtain ⟨i, e, rfl⟩ : ∃ (i : Fin 91) (e : Fin 16), u = ix2 i e := ⟨u 0, u 1, ValueIdx.eq_ix2 u⟩
  obtain ⟨h1, h2⟩ := (pad_lands _ hidx _ _ _ _).1 hu
  have e1 : i = ⟨k, hk⟩ := Fin.ext h1
  have e2 : e = d := Fin.ext h2
  rw [e1, e2]

end Cert.KernelIdeal.HostIn

end
-- ==== Proof.Array.lean ====
/- The array the launch writes, element by element, and the program's result after the transpose that follows it. -/
module

public import proofs.«01_k».proof.Proof.Gen.KernelIdeal.Frame
public import proofs.«01_k».proof.Proof.Token
public import proofs.«01_k».proof.Proof.Tile
public import proofs.«01_k».proof.Proof.HostIn
public import Idealize.ShloMosaic.Lib.StableHlo.ReadAt
public import Idealize.ShloMosaic.Lib.Pipeline.ValueKit
public import Idealize.ShloMosaic.Lib.Pointwise

@[expose] public section

set_option maxRecDepth 16384

noncomputable section

namespace Cert.KernelIdeal.Array

open Cert.KernelIdeal Cert.KernelIdeal.Gen Cert.Token Idealize.ShloMosaic Idealize.ShloMosaic.TcCoe Idealize.SL.Sem
open Cert.KernelIdeal.HostIn

variable (m : (ℓ : Loc nD τ sig) → Buf (Elt Ideal) ℓ) (c : Dev nD)

/-! The arrays the launch reads, each at its own shape. -/

/-- The notes, position first. -/
abbrev notesT : IVec S200x1x4096 32 := V m c main_v0
/-- The onsets, position first. -/
abbrev onsetsT : FVec Ideal S200x1x4096 .f32 := V m c main_v1
/-- The durations, position first. -/
abbrev durationsT : FVec Ideal S200x1x4096 .f32 := V m c main_v2
/-- The table of note embeddings, padded to 96 rows. -/
abbrev padded : FVec Ideal S96x16 .f32 := V m c main_v5
/-- The dense weights' rows for the note features. -/
abbrev noteW : FVec Ideal S16x64 .f32 := V m c main_v6
/-- The onset's row. -/
abbrev onsetV : FVec Ideal S1x64 .f32 := V m c main_v8
/-- The duration's row. -/
abbrev durV : FVec Ideal S1x64 .f32 := V m c main_v10
/-- The bias row. -/
abbrev biasV : FVec Ideal S1x64 .f32 := V m c main_v17
/-- The slope, one by one. -/
abbrev slopeV : FVec Ideal S1x1 .f32 := V m c main_v18
/-- The scale, copied along the sequences. -/
abbrev gammaV : FVec Ideal S64x4096 .f32 := V m c main_v20
/-- The shift, copied along the sequences. -/
abbrev betaV : FVec Ideal S64x4096 .f32 := V m c main_v22

/-- What the kernel's arithmetic gives for position `l` of sequence `b` at channel `j`, over the arrays the launch reads. -/
def tokenAt (l : Fin 200) (j : Fin 64) (b : Fin 4096) : EReal :=
  kOut (fun k e => ∑ d : Fin 16, padded m c (ix2 k d) * noteW m c (ix2 d e))
    (fun e => onsetV m c (ix2 0 e)) (fun e => durV m c (ix2 0 e)) (fun e => biasV m c (ix2 0 e))
    (slopeV m c (ix2 0 0)) (notesT m c (ix3 l 0 b)) (onsetsT m c (ix3 l 0 b)) (durationsT m c (ix3 l 0 b))
    (gammaV m c (ix2 j b)) (betaV m c (ix2 j b)) j

/-- The whole output array as one function of the arrays the launch reads. -/
def whole : Buf (Elt Ideal) ((c.tc : Thread nD τ).loc main_v23) := fun i : S200x64x4096.Idx => tokenAt m c (i 0) (i 1) (i 2)

theorem i0 : ∀ t : Fin cfg0.N, win0_0.index t = ![t.val, 0, 0] := (by decide +kernel : ∀ t : Fin grid0.N, _)
theorem i1 : ∀ t : Fin cfg0.N, win0_1.index t = ![t.val, 0, 0] := (by decide +kernel : ∀ t : Fin grid0.N, _)
theorem i2 : ∀ t : Fin cfg0.N, win0_2.index t = ![t.val, 0, 0] := (by decide +kernel : ∀ t : Fin grid0.N, _)
theorem i3 : ∀ t : Fin cfg0.N, win0_3.index t = ![0, 0] := (by decide +kernel : ∀ t : Fin grid0.N, _)
theorem i4 : ∀ t : Fin cfg0.N, win0_4.index t = ![0, 0] := (by decide +kernel : ∀ t : Fin grid0.N, _)
theorem i5 : ∀ t : Fin cfg0.N, win0_5.index t = ![0, 0] := (by decide +kernel : ∀ t : Fin grid0.N, _)
theorem i6 : ∀ t : Fin cfg0.N, win0_6.index t = ![0, 0] := (by decide +kernel : ∀ t : Fin grid0.N, _)
theorem i7 : ∀ t : Fin cfg0.N, win0_7.index t = ![0, 0] := (by decide +kernel : ∀ t : Fin grid0.N, _)
theorem i8 : ∀ t : Fin cfg0.N, win0_8.index t = ![0, 0] := (by decide +kernel : ∀ t : Fin grid0.N, _)
theorem i9 : ∀ t : Fin cfg0.N, win0_9.index t = ![0, 0] := (by decide +kernel : ∀ t : Fin grid0.N, _)
theorem i10 : ∀ t : Fin cfg0.N, win0_10.index t = ![0, 0] := (by decide +kernel : ∀ t : Fin grid0.N, _)
theorem i11 : ∀ t : Fin cfg0.N, win0_11.index t = ![t.val, 0, 0] := (by decide +kernel : ∀ t : Fin grid0.N, _)

/-- Row `y` of the step's block of positions, as a position of the whole array. -/
abbrev pos (t : Fin 25) (y : Fin 8) : Fin 200 := ⟨t * 8 + y, by omega⟩

/-! The blocks a step reads: eight positions of the token arrays, and the others whole. -/

theorem notes_block (t : Fin cfg0.N) (l : Fin 8) (b : Fin 4096) :
    iblk m c 0 t (ix3 l 0 b) = notesT m c (ix3 (pos t l) 0 b) := by
  blk_simp [iblk]
  refine congrArg _ ?_
  blk_ext [i0]

theorem onsets_block (t : Fin cfg0.N) (l : Fin 8) (b : Fin 4096) :
    iblk m c 1 t (ix3 l 0 b) = onsetsT m c (ix3 (pos t l) 0 b) := by
  blk_simp [iblk]
  refine congrArg _ ?_
  blk_ext [i1]

theorem durations_block (t : Fin cfg0.N) (l : Fin 8) (b : Fin 4096) :
    iblk m c 2 t (ix3 l 0 b) = durationsT m c (ix3 (pos t l) 0 b) := by
  blk_simp [iblk]
  refine congrArg _ ?_
  blk_ext [i2]

theorem padded_block (t : Fin cfg0.N) : iblk m c 3 t = padded m c := funext fun y => by
  blk_simp [iblk]
  refine congrArg _ ?_
  blk_ext [i3]

theorem noteW_block (t : Fin cfg0.N) : iblk m c 4 t = noteW m c := funext fun y => by
  blk_simp [iblk]
  refine congrArg _ ?_
  blk_ext [i4]

theorem onsetV_block (t : Fin cfg0.N) : iblk m c 5 t = onsetV m c := funext fun y => by
  blk_simp [iblk]
  refine congrArg _ ?_
  blk_ext [i5]

theorem durV_block (t : Fin cfg0.N) : iblk m c 6 t = durV m c := funext fun y => by
  blk_simp [iblk]
  refine congrArg _ ?_
  blk_ext [i6]

theorem biasV_block (t : Fin cfg0.N) : iblk m c 7 t = biasV m c := funext fun y => by
  blk_simp [iblk]
  refine congrArg _ ?_
  blk_ext [i7]

theorem slopeV_block (t : Fin cfg0.N) : iblk m c 8 t = slopeV m c := funext fun y => by
  blk_simp [iblk]
  refine congrArg _ ?_
  blk_ext [i8]

theorem gammaV_block (t : Fin cfg0.N) : iblk m c 9 t = gammaV m c := funext fun y => by
  blk_simp [iblk]
  refine congrArg _ ?_
  blk_ext [i9]

theorem betaV_block (t : Fin cfg0.N) : iblk m c 10 t = betaV m c := funext fun y => by
  blk_simp [iblk]
  refine congrArg _ ?_
  blk_ext [i10]

/-- What a step leaves at row `l` of its output block is the token at that row's position. -/
theorem step_apply (t : Fin cfg0.N) (l : Fin 8) (j : Fin 64) (b : Fin 4096) :
    out0_11 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (ix3 l j b) = tokenAt m c (pos t l) j b := by
  have en := notes_block m c t l b
  have eo := onsets_block m c t l b
  have ed := durations_block m c t l b
  rw [padded_block, noteW_block, onsetV_block, durV_block, biasV_block, slopeV_block, gammaV_block, betaV_block]
  generalize iblk m c 0 t = n0 at en ⊢
  generalize iblk m c 1 t = o0 at eo ⊢
  generalize iblk m c 2 t = d0 at ed ⊢
  refine (Tile.out_apply ..).trans ?_
  unfold tokenAt
  rw [← en, ← eo, ← ed]
  rfl

/-- After the launch the output array holds the kernel's arithmetic at every element. -/
theorem launched : (dats m 0 c).arrAt 11 cfg0.N = whole m c := by
  refine (dats m 0 c).arrAt_eq_of_covers 11 (whole m c) (by decide +kernel) fun t hf y => ?_
  blk_simp
  rw [after0_11]
  obtain ⟨l, j, b, rfl⟩ : ∃ (l : Fin 8) (j : Fin 64) (b : Fin 4096), y = ix3 l j b := ⟨y 0, y 1, y 2, eq_ix3 y⟩
  have hy : (win0_11.blk t).view.emb (ix3 l j b) = (ix3 (pos t l) j b : S200x64x4096.Idx) := by blk_ext [i11]
  rw [hy]
  exact step_apply m c t l j b

/-- The program's result: the transpose after the launch puts the sequence back in front, the channel last. -/
theorem result_at (b : Fin 4096) (l : Fin 200) (j : Fin 64) :
    (Pipeline.afterTail₀ cfgs (dats m) 0 (V0 m) [hostOps1] c main_v24 (ix3 b l j) : EReal) = tokenAt m c l j b := by
  have harr := (Pipeline.withArrays_arr spec0 (by decide) c (V0 m c) (fun w => (dats m 0 c).arrAt w cfg0.N) 11).trans (launched m c)
  unfold Pipeline.afterTail₀
  simp only [hostOps1, List.flatten_cons, List.flatten_nil, List.append_nil]
  after_reads_at
  exact congrFun harr (ix3 l j b)

end Cert.KernelIdeal.Array

end
-- ==== Proof.Algebra.lean ====
/- The equation between the kernel's arithmetic and the reference's at one token, where the inputs are real. -/
module

public import proofs.«01_k».proof.Proof.Token

@[expose] public section

noncomputable section

namespace Cert.Token

open Idealize.ShloMosaic

/-- A sum of reals, as an extended real, is the sum of the reals as extended reals. -/
theorem coe_sum {n : Nat} (f : Fin n → ℝ) : ((∑ k, f k : ℝ) : EReal) = ∑ k, (f k : EReal) := by
  induction n with
  | zero => simp
  | succ n ih => rw [Fin.sum_univ_succ, Fin.sum_univ_succ, EReal.coe_add, ih]

/-- A sum over 28 places is the sum over the first sixteen, the next eight and the last four. -/
theorem sum_28 {M : Type} [AddCommMonoid M] (f : Fin 28 → M) :
    ∑ k, f k = (∑ k : Fin 16, f ⟨k, by omega⟩) + (∑ k : Fin 8, f ⟨16 + k, by omega⟩) + ∑ k : Fin 4, f ⟨24 + k, by omega⟩ := by
  rw [Fin.sum_univ_add (a := 24) (b := 4) f, Fin.sum_univ_add (a := 16) (b := 8)]
  rfl

/-- The one-hot vector of a note below 91 picks that note's entry, whatever the others hold. -/
theorem sum_hot (ft : Fin 96 → EReal) (n : Fin 91) :
    (∑ k : Fin 96, ft k * hot k (BitVec.ofNat 32 n)) = ft ⟨n, by omega⟩ := by
  rw [Finset.sum_eq_single (⟨n, by omega⟩ : Fin 96)]
  · simp [hot]
  · intro k _ hk
    have : BitVec.ofNat 32 k.val ≠ BitVec.ofNat 32 n.val := fun e => hk (Fin.ext (by
      have e' := congrArg BitVec.toNat e
      simp only [BitVec.toNat_ofNat] at e'
      have := k.isLt
      have := n.isLt
      show k.val = n.val
      omega))
    simp [hot, this]
  · intro h
    exact absurd (Finset.mem_univ _) h

/-- The reference's linear layer over reals is a real. -/
theorem rLin_coe (t : Fin 16 → ℝ) (ow ob : Fin 8 → ℝ) (dw db : Fin 4 → ℝ) (w : Fin 28 → ℝ) (bias on du : ℝ) :
    rLin (fun k => t k) (fun k => ow k) (fun k => ob k) (fun k => dw k) (fun k => db k) (fun k => w k) bias on du
      = (((∑ k : Fin 16, t k * w ⟨k, by omega⟩) + (∑ k : Fin 8, (on * ow k + ob k) * w ⟨16 + k, by omega⟩)
          + (∑ k : Fin 4, (du * dw k + db k) * w ⟨24 + k, by omega⟩) + bias : ℝ) : EReal) := by
  simp only [rLin, EReal.coe_add, coe_sum, EReal.coe_mul]

/-- The linear layers agree over reals: multiplying the small weights together beforehand changes nothing. -/
theorem kLin_eq (ft : Fin 96 → EReal) (n : Fin 91) (t : Fin 16 → ℝ) (ow ob : Fin 8 → ℝ) (dw db : Fin 4 → ℝ) (w : Fin 28 → ℝ)
    (bias on du : ℝ) (hft : ft ⟨n, by omega⟩ = ∑ d : Fin 16, (t d : EReal) * (w ⟨d, by omega⟩ : EReal)) :
    kLin ft (∑ x : Fin 8, (ow x : EReal) * (w ⟨16 + x, by omega⟩ : EReal)) (∑ x : Fin 4, (dw x : EReal) * (w ⟨24 + x, by omega⟩ : EReal))
        ((∑ x : Fin 8, (ob x : EReal) * (w ⟨16 + x, by omega⟩ : EReal)) + (∑ x : Fin 4, (db x : EReal) * (w ⟨24 + x, by omega⟩ : EReal))
          + (bias : EReal))
        (BitVec.ofNat 32 n) on du
      = rLin (fun k => t k) (fun k => ow k) (fun k => ob k) (fun k => dw k) (fun k => db k) (fun k => w k) bias on du := by
  rw [rLin_coe]
  unfold kLin
  rw [sum_hot, hft, mul_one]
  simp only [← EReal.coe_mul, ← coe_sum, ← EReal.coe_add]
  refine congrArg _ ?_
  simp only [add_mul, Finset.sum_add_distrib, mul_assoc, ← Finset.mul_sum]
  ring

/-- The activation of a real by a real slope is a real. -/
theorem leaky_coe (a z : ℝ) : leaky a z = ((if 0 < z then z else a * z : ℝ) : EReal) := by
  unfold leaky
  by_cases h : 0 < z
  · rw [if_pos h, if_pos (EReal.coe_pos.2 h)]
  · rw [if_neg h, if_neg (fun q => h (EReal.coe_pos.1 q)), EReal.coe_mul]

/-- The mean square less the squared mean is the mean squared deviation. -/
theorem variance_eq (h : Fin 64 → ℝ) :
    (∑ k, h k * h k) * (1 / 64) - (∑ k, h k) * (1 / 64) * ((∑ k, h k) * (1 / 64))
      = (∑ k, (h k - (∑ k, h k) * (1 / 64)) * (h k - (∑ k, h k) * (1 / 64))) * (1 / 64) := by
  generalize hS : ∑ k, h k = S
  have e : ∀ k, (h k - S * (1 / 64)) * (h k - S * (1 / 64)) = h k * h k - 2 * (S * (1 / 64)) * h k + S * (1 / 64) * (S * (1 / 64)) :=
    fun k => by ring
  simp only [e, Finset.sum_add_distrib, Finset.sum_sub_distrib, ← Finset.mul_sum, hS, Finset.sum_const, Finset.card_univ,
    Fintype.card_fin, nsmul_eq_mul]
  push_cast
  ring

/-- The two layer normalisations agree over real channels, whatever the scale and the shift. -/
theorem kNorm_eq (h : Fin 64 → ℝ) (g b : EReal) (c : Fin 64) :
    kNorm (fun k => (h k : EReal)) g b c = rNorm (fun k => (h k : EReal)) g b c := by
  obtain ⟨e, he, hb⟩ := bits_eps
  unfold kNorm rNorm
  have h64 : (64 : ℝ) ≠ 0 := by norm_num
  simp only [bits_64th, hb, Ideal.div_coe h64, ← EReal.coe_mul, ← coe_sum, ← EReal.coe_sub, ← EReal.coe_add]
  rw [variance_eq h]
  have hv : 0 < (∑ k, (h k - (∑ k, h k) * (1 / 64)) * (h k - (∑ k, h k) * (1 / 64))) * (1 / 64) + e :=
    add_pos_of_nonneg_of_pos (mul_nonneg (Finset.sum_nonneg fun k _ => mul_self_nonneg _) (by norm_num)) he
  generalize (∑ k, (h k - (∑ k, h k) * (1 / 64)) * (h k - (∑ k, h k) * (1 / 64))) * (1 / 64) + e = v at hv ⊢
  rw [Ideal.rsqrt_coe, Ideal.sqrt_coe, if_neg hv.not_gt, if_neg hv.ne', if_neg hv.not_gt, Ideal.div_coe (Real.sqrt_pos.2 hv).ne', one_div (Real.sqrt v)]
  rw [mul_comm g, mul_assoc]

end Cert.Token

end
-- ==== Proof.Ref.lean ====
/- What the reference computes, element by element. -/
module

public import proofs.«01_k».proof.Proof.Gen.ReferenceIdeal.Read
public import Idealize.ShloMosaic.Lib.Pointwise
public import proofs.«01_k».proof.Proof.Algebra

@[expose] public section

set_option maxRecDepth 16384

noncomputable section

namespace Cert.ReferenceIdeal.Ref

open Cert.ReferenceIdeal Cert.ReferenceIdeal.Read Cert.Token Idealize.ShloMosaic Idealize.ShloMosaic.TcCoe Idealize.SL.Sem

variable (x0 : IVec S4096x200x1 32) (x1 x2 : FVec Ideal S4096x200x1 .f32) (x4 : FVec Ideal S91x16 .f32)
  (x5 : FVec Ideal S1x8 .f32) (x6 : FVec Ideal S8 .f32) (x7 : FVec Ideal S1x4 .f32) (x8 : FVec Ideal S4 .f32)
  (x9 : FVec Ideal S28x64 .f32) (x10 : FVec Ideal S64 .f32) (x11 : FVec Ideal S_ .f32) (x12 x13 : FVec Ideal S64 .f32)

/-- The wrapped index of a note that is a row of the table is the note itself. -/
theorem index_at (b : Fin 4096) (l : Fin 200) (n : Fin 91) (hn : x0 (ix3 b l 0) = BitVec.ofNat 32 n) :
    val_main_call0_v5 (F := Ideal) x0 (ix4 b l 0 0) = BitVec.ofNat 32 n := by
  pointwise [val_main_call0_v5, val_main_call0_v4, val_main_call0_v3, val_main_call0_v2, val_main_call0_c_0, val_main_call0_v1,
    val_main_call0_v0, val_main_call0_c]
  rw [hn]
  exact (by decide : ∀ n : Fin 91, Scalar.select (IntOp.cmpi .slt (BitVec.ofNat 32 n) 0#32) (IntOp.addi (BitVec.ofNat 32 n) 91#32)
    (BitVec.ofNat 32 n) = BitVec.ofNat 32 n) n

/-- Such a note passes the range test. -/
theorem mask_at (b : Fin 4096) (l : Fin 200) (n : Fin 91) (hn : x0 (ix3 b l 0) = BitVec.ofNat 32 n) :
    val_main_call0_v12 (F := Ideal) x0 (ix3 b l 0) = 1#1 := by
  have hi := index_at x0 b l n hn
  unfold val_main_call0_v12 val_main_call0_v11 val_main_call0_v10 val_main_call0_v7
  generalize val_main_call0_v5 (F := Ideal) x0 = i at hi ⊢
  pointwise [val_main_call0_v6, val_main_call0_c_2, val_main_call0_v9, val_main_call0_v8, val_main_call0_c_1, val_main_call0_c_3]
  rw [Finset.univ_unique, Finset.fold_singleton]
  show IntOp.andi (IntOp.andi (IntOp.cmpi .sge (i (ix4 b l 0 0)) 0#32) (IntOp.cmpi .sle (i (ix4 b l 0 0)) 90#32)) 1#1 = 1#1
  rw [hi]
  exact (by decide : ∀ n : Fin 91, IntOp.andi (IntOp.andi (IntOp.cmpi .sge (BitVec.ofNat 32 n) 0#32)
    (IntOp.cmpi .sle (BitVec.ofNat 32 n) 90#32)) 1#1 = 1#1) n

/-- The gather takes the note's row of the table. -/
theorem gather_at (b : Fin 4096) (l : Fin 200) (k : Fin 16) (n : Fin 91) (hn : x0 (ix3 b l 0) = BitVec.ofNat 32 n) :
    val_main_call0_v13 (F := Ideal) x0 x4 (ix4 b l 0 k) = x4 (ix2 n k) := by
  have hi := index_at x0 b l n hn
  unfold val_main_call0_v13
  generalize val_main_call0_v5 (F := Ideal) x0 = i at hi ⊢
  unfold Host.gather
  refine congrArg x4 (funext fun a => Fin.ext ?_)
  match a with
  | ⟨0, _⟩ =>
    show gather_S91x16_S4096x200x1x1_S4096x200x1x16_3_0_n_n_0_3_116.start (ix4 b l 0 k) i 0 + 0 + 0 = n.val
    refine (congrArg (· + 0 + 0) (dif_pos (show (0 : Fin 2) ∈ gather_S91x16_S4096x200x1x1_S4096x200x1x16_3_0_n_n_0_3_116.startIndexMap from List.mem_singleton.mpr rfl))).trans ?_
    have hs : gather_S91x16_S4096x200x1x1_S4096x200x1x16_3_0_n_n_0_3_116.siIdx (ix4 b l 0 k) ⟨0, by decide⟩ = ix4 b l 0 0 := by
      funext a
      match a with
      | ⟨0, _⟩ => rfl
      | ⟨1, _⟩ => rfl
      | ⟨2, _⟩ => rfl
      | ⟨3, _⟩ => rfl
    show min (i (gather_S91x16_S4096x200x1x1_S4096x200x1x16_3_0_n_n_0_3_116.siIdx (ix4 b l 0 k) ⟨0, by decide⟩)).toInt.toNat 90 = n.val
    rw [hs, hi]
    exact (by decide : ∀ n : Fin 91, min (BitVec.ofNat 32 n).toInt.toNat 90 = n) n
  | ⟨1, _⟩ =>
    show 0 + 0 + k.val = k.val
    omega

/-- The embedding of a note: its row of the table. -/
theorem note_at (b : Fin 4096) (l : Fin 200) (k : Fin 16) (n : Fin 91) (hn : x0 (ix3 b l 0) = BitVec.ofNat 32 n) :
    val_main_v1 (F := Ideal) x0 x4 (ix3 b l k) = x4 (ix2 n k) := by
  have hm := mask_at x0 b l n hn
  have hg := gather_at x0 x4 b l k n hn
  unfold val_main_v1 val_main_v0 val_main_call0_v14
  generalize val_main_call0_v12 (F := Ideal) x0 = p at hm ⊢
  generalize val_main_call0_v13 (F := Ideal) x0 x4 = g at hg ⊢
  pointwise [val_main_call0_v15, val_main_call0_cst]
  rw [hm, hg]
  rfl

/-- The embedding of an onset: its weight times the onset, and the bias. -/
theorem onset_at (b : Fin 4096) (l : Fin 200) (k : Fin 8) :
    val_main_v5 (F := Ideal) x1 x5 x6 (ix3 b l k) = x1 (ix3 b l 0) * x5 (ix2 0 k) + x6 (ix1 k) := by
  pointwise [val_main_v5, val_main_v4, val_main_v3, val_main_v2]
  rw [Fin.sum_univ_one]

/-- The embedding of a duration, likewise. -/
theorem dur_at (b : Fin 4096) (l : Fin 200) (k : Fin 4) :
    val_main_v9 (F := Ideal) x2 x7 x8 (ix3 b l k) = x2 (ix3 b l 0) * x7 (ix2 0 k) + x8 (ix1 k) := by
  pointwise [val_main_v9, val_main_v8, val_main_v7, val_main_v6]
  rw [Fin.sum_univ_one]

/-! The joined features: the first sixteen the note's, the next eight the onset's, the last four the duration's. -/

theorem concat_note (b : Fin 4096) (l : Fin 200) (k : Fin 16) (hk : k.val < 28) :
    val_main_v10 (F := Ideal) x0 x1 x2 x4 x5 x6 x7 x8 (ix3 b l ⟨k, hk⟩) = val_main_v1 (F := Ideal) x0 x4 (ix3 b l k) := by
  unfold val_main_v10
  generalize val_main_v1 (F := Ideal) x0 x4 = n
  generalize val_main_v5 (F := Ideal) x1 x5 x6 = o
  generalize val_main_v9 (F := Ideal) x2 x7 x8 = d
  pointwise

theorem concat_onset (b : Fin 4096) (l : Fin 200) (k : Fin 8) (hk : 16 + k.val < 28) :
    val_main_v10 (F := Ideal) x0 x1 x2 x4 x5 x6 x7 x8 (ix3 b l ⟨16 + k, hk⟩) = val_main_v5 (F := Ideal) x1 x5 x6 (ix3 b l k) := by
  unfold val_main_v10
  generalize val_main_v1 (F := Ideal) x0 x4 = n
  generalize val_main_v5 (F := Ideal) x1 x5 x6 = o
  generalize val_main_v9 (F := Ideal) x2 x7 x8 = d
  pointwise

theorem concat_dur (b : Fin 4096) (l : Fin 200) (k : Fin 4) (hk : 24 + k.val < 28) :
    val_main_v10 (F := Ideal) x0 x1 x2 x4 x5 x6 x7 x8 (ix3 b l ⟨24 + k, hk⟩) = val_main_v9 (F := Ideal) x2 x7 x8 (ix3 b l k) := by
  unfold val_main_v10
  generalize val_main_v1 (F := Ideal) x0 x4 = n
  generalize val_main_v5 (F := Ideal) x1 x5 x6 = o
  generalize val_main_v9 (F := Ideal) x2 x7 x8 = d
  pointwise
  rw [dif_neg (by omega), dif_neg (by omega)]
  refine congrArg (fun e => d (ix3 b l e)) (Fin.ext ?_)
  show 24 + k.val - 16 - 8 = k.val
  omega

/-- The dense layer. -/
theorem dense_at (b : Fin 4096) (l : Fin 200) (j : Fin 64) :
    (val_main_v14 (F := Ideal) x0 x1 x2 x4 x5 x6 x7 x8 x9 x10 (ix3 b l j) : EReal)
      = ∑ k : Fin 28, val_main_v10 (F := Ideal) x0 x1 x2 x4 x5 x6 x7 x8 (ix3 b l k) * x9 (ix2 k j) + x10 (ix1 j) := by
  unfold val_main_v14 val_main_v11
  generalize val_main_v10 (F := Ideal) x0 x1 x2 x4 x5 x6 x7 x8 = f
  pointwise [val_main_v13, val_main_v12]

/-- The dense layer at a token whose note is row `n` of the table. -/
theorem lin_at (b : Fin 4096) (l : Fin 200) (j : Fin 64) (n : Fin 91) (hn : x0 (ix3 b l 0) = BitVec.ofNat 32 n) :
    val_main_v14 (F := Ideal) x0 x1 x2 x4 x5 x6 x7 x8 x9 x10 (ix3 b l j)
      = rLin (fun k => x4 (ix2 n k)) (fun k => x5 (ix2 0 k)) (fun k => x6 (ix1 k)) (fun k => x7 (ix2 0 k)) (fun k => x8 (ix1 k))
          (fun k => x9 (ix2 k j)) (x10 (ix1 j)) (x1 (ix3 b l 0)) (x2 (ix3 b l 0)) := by
  rw [dense_at, sum_28]
  simp only [concat_note, concat_onset, concat_dur, note_at x0 x4 b l _ n hn, onset_at, dur_at]
  rfl

/-- The activation. -/
theorem leaky_at (b : Fin 4096) (l : Fin 200) (j : Fin 64) :
    val_main_v19 (F := Ideal) x0 x1 x2 x4 x5 x6 x7 x8 x9 x10 x11 (ix3 b l j)
      = leaky (x11 ix0) (val_main_v14 (F := Ideal) x0 x1 x2 x4 x5 x6 x7 x8 x9 x10 (ix3 b l j)) := by
  unfold val_main_v19 val_main_v18 val_main_v16
  generalize val_main_v14 (F := Ideal) x0 x1 x2 x4 x5 x6 x7 x8 x9 x10 = z
  pointwise [val_main_v17, val_main_v15, val_main_cst]
  rfl

end Cert.ReferenceIdeal.Ref

end
-- ==== Proof.RefNorm.lean ====
/- The reference's layer normalisation, element by element, and its result. -/
module

public import proofs.«01_k».proof.Proof.Gen.ReferenceIdeal.Read
public import Idealize.ShloMosaic.Lib.Pointwise
public import proofs.«01_k».proof.Proof.Ref

@[expose] public section

set_option maxRecDepth 16384

noncomputable section

namespace Cert.ReferenceIdeal.Ref

open Cert.ReferenceIdeal Cert.ReferenceIdeal.Read Cert.Token Idealize.ShloMosaic Idealize.ShloMosaic.TcCoe Idealize.SL.Sem

variable (x0 : IVec S4096x200x1 32) (x1 x2 : FVec Ideal S4096x200x1 .f32) (x4 : FVec Ideal S91x16 .f32)
  (x5 : FVec Ideal S1x8 .f32) (x6 : FVec Ideal S8 .f32) (x7 : FVec Ideal S1x4 .f32) (x8 : FVec Ideal S4 .f32)
  (x9 : FVec Ideal S28x64 .f32) (x10 : FVec Ideal S64 .f32) (x11 : FVec Ideal S_ .f32) (x12 x13 : FVec Ideal S64 .f32)

/-- The result: the layer normalisation of the activated channels. -/
theorem norm_at (b : Fin 4096) (l : Fin 200) (j : Fin 64) :
    val_main_v37 (F := Ideal) x0 x1 x2 x4 x5 x6 x7 x8 x9 x10 x11 x12 x13 (ix3 b l j)
      = rNorm (fun k => val_main_v19 (F := Ideal) x0 x1 x2 x4 x5 x6 x7 x8 x9 x10 x11 (ix3 b l k)) (x12 (ix1 j)) (x13 (ix1 j)) j := by
  unfold val_main_v37 val_main_v34 val_main_v31 val_main_v30 val_main_v29 val_main_v28 val_main_v26 val_main_v25 val_main_v24
    val_main_call2_v12 val_main_call2_v10 val_main_call2_v9 val_main_call2_v6 val_main_call2_v5 val_main_call2_v4
    val_main_call2_v3 val_main_call2_v1 val_main_call2_v0 val_main_v23 val_main_v21 val_main_v20
  generalize val_main_v19 (F := Ideal) x0 x1 x2 x4 x5 x6 x7 x8 x9 x10 x11 = h
  pointwise [val_main_v36, val_main_v35, val_main_v33, val_main_v32, val_main_v27, val_main_cst_2, val_main_call2_call0_v1,
    val_main_call2_call0_v0, val_main_call2_cst_4, val_main_call2_v13, val_main_call2_cst_3, val_main_call2_v11, val_main_call2_v8,
    val_main_call2_cst_2, val_main_call2_cst_1, val_main_call2_v7, val_main_c, val_main_call2_v2, val_main_call2_cst_0,
    val_main_call2_cst, val_main_v22, val_main_cst_1, val_main_cst_0]
  have h0 : (FloatOps.sitofp FTy.f32 0#32 : Ideal FTy.f32) = ((0 : ℝ) : EReal) := by
    show (((0#32 : BitVec 32).toInt : ℝ) : EReal) = _
    simp
  rw [bits_64, h0, ← EReal.coe_sub, sub_zero, if_pos (EReal.coe_pos.2 (by norm_num))]
  rfl

end Cert.ReferenceIdeal.Ref

end
-- ==== Proof.Pre.lean ====
/- What the precondition says of the arguments: each note is a row of the table, each float is a real number. -/
module

public import proofs.«01_k».proof.Defs
public import proofs.«01_k».proof.Proof.HostIn

@[expose] public section

set_option maxRecDepth 16384

noncomputable section

namespace Cert.Pre_tame

open Idealize.ShloMosaic

/-- The broadcasts the precondition makes are of a single number. -/
theorem facts : Facts where
  bcast_S_S4096x200x1 := by decide
  bcast_S_S91x16 := by decide
  bcast_S_S1x8 := by decide
  bcast_S_S8 := by decide
  bcast_S_S1x4 := by decide
  bcast_S_S4 := by decide
  bcast_S_S28x64 := by decide
  bcast_S_S64 := by decide

/-- An extended real whose magnitude compares below the float pattern of infinity is a real number. -/
theorem real_of_lt {x : Ideal .f32} (h : FloatOps.cmpf .olt (FloatOps.hostAbsf x) (FloatOps.ofBits .f32 0x7F800000#32) = 1#1) :
    x = ((EReal.toReal x : ℝ) : EReal) := by
  have ht : (FloatOps.ofBits .f32 0x7F800000#32 : Ideal .f32) = (⊤ : EReal) := by
    show Ideal.ofBits .f32 0x7F800000#32 = _
    simp [Ideal.ofBits, Ideal.ieee]
  rw [ht] at h
  have hl : max (x : EReal) (-x) < ⊤ := by
    by_contra q
    have : FloatOps.cmpf .olt (FloatOps.hostAbsf x) (⊤ : EReal) = 0#1 := by
      show BitVec.ofBool (decide (max (x : EReal) (-x) < ⊤)) = 0#1
      rw [decide_eq_false q]
      rfl
    rw [this] at h
    exact absurd h (by decide)
  obtain ⟨h1, h2⟩ := max_lt_iff.1 hl
  refine (EReal.coe_toReal h1.ne fun q => ?_).symm
  rw [show x = (⊥ : EReal) from q] at h2
  simp at h2

/-- A word that compares at least 0 and below 91 is one of the 91 rows of the table. -/
theorem row_of_range {x : BitVec 32} (h : IntOp.andi (IntOp.cmpi .sge x 0#32) (IntOp.cmpi .slt x 91#32) = 1#1) :
    ∃ n : Fin 91, x = BitVec.ofNat 32 n := by
  have h0 : (0 : Int) ≤ x.toInt := by
    by_contra q
    have : IntOp.cmpi .sge x 0#32 = 0#1 := by
      show BitVec.ofBool (decide ((0#32 : BitVec 32).toInt ≤ x.toInt)) = 0#1
      rw [decide_eq_false (by simpa using q)]
      rfl
    rw [this] at h
    revert h
    generalize IntOp.cmpi .slt x 91#32 = y
    revert y
    decide
  have h1 : x.toInt < 91 := by
    by_contra q
    have : IntOp.cmpi .slt x 91#32 = 0#1 := by
      show BitVec.ofBool (decide (x.toInt < (91#32 : BitVec 32).toInt)) = 0#1
      rw [decide_eq_false (by simpa using q)]
      rfl
    rw [this] at h
    revert h
    generalize IntOp.cmpi .sge x 0#32 = y
    revert y
    decide
  have hx : x.toNat < 91 := by
    have := x.isLt
    rw [BitVec.toInt_eq_toNat_cond] at h0 h1
    split at h0 <;> omega
  exact ⟨⟨x.toNat, hx⟩, by simp⟩

end Cert.Pre_tame

namespace Cert.KernelIdeal.HostIn

open Cert.KernelIdeal Idealize.ShloMosaic Idealize.ShloMosaic.TcCoe Idealize.SL.Sem Cert.Pre_tame

variable {m : (ℓ : Loc nD τ sig) → Buf (Elt Ideal) ℓ} (h : Pre_KernelIdeal_tame (hPre_tame := Cert.Pre_tame.facts) m) (c : Dev nD)

include h

/-- Every note is a row of the table. -/
theorem notes_row (i : S4096x200x1.Idx) : ∃ n : Fin 91, notes m c i = BitVec.ofNat 32 n := row_of_range (congrFun (h c).1 i)
/-- Every onset is real. -/
theorem onsets_real (i : S4096x200x1.Idx) : onsets m c i = ((EReal.toReal (onsets m c i) : ℝ) : EReal) := real_of_lt (congrFun (h c).2.1 i)
/-- Every duration is real. -/
theorem durations_real (i : S4096x200x1.Idx) : durations m c i = ((EReal.toReal (durations m c i) : ℝ) : EReal) :=
  real_of_lt (congrFun (h c).2.2.1 i)
/-- Every entry of the table is real. -/
theorem table_real (i : S91x16.Idx) : table m c i = ((EReal.toReal (table m c i) : ℝ) : EReal) := real_of_lt (congrFun (h c).2.2.2.1 i)
/-- Every onset weight is real. -/
theorem onsetW_real (i : S1x8.Idx) : onsetW m c i = ((EReal.toReal (onsetW m c i) : ℝ) : EReal) := real_of_lt (congrFun (h c).2.2.2.2.1 i)
/-- Every onset bias is real. -/
theorem onsetB_real (i : S8.Idx) : onsetB m c i = ((EReal.toReal (onsetB m c i) : ℝ) : EReal) := real_of_lt (congrFun (h c).2.2.2.2.2.1 i)
/-- Every duration weight is real. -/
theorem durW_real (i : S1x4.Idx) : durW m c i = ((EReal.toReal (durW m c i) : ℝ) : EReal) := real_of_lt (congrFun (h c).2.2.2.2.2.2.1 i)
/-- Every duration bias is real. -/
theorem durB_real (i : S4.Idx) : durB m c i = ((EReal.toReal (durB m c i) : ℝ) : EReal) := real_of_lt (congrFun (h c).2.2.2.2.2.2.2.1 i)
/-- Every dense weight is real. -/
theorem denseW_real (i : S28x64.Idx) : denseW m c i = ((EReal.toReal (denseW m c i) : ℝ) : EReal) :=
  real_of_lt (congrFun (h c).2.2.2.2.2.2.2.2.1 i)
/-- Every dense bias is real. -/
theorem denseB_real (i : S64.Idx) : denseB m c i = ((EReal.toReal (denseB m c i) : ℝ) : EReal) :=
  real_of_lt (congrFun (h c).2.2.2.2.2.2.2.2.2.1 i)
/-- The slope is real. -/
theorem slope_real (i : S_.Idx) : slope m c i = ((EReal.toReal (slope m c i) : ℝ) : EReal) :=
  real_of_lt (congrFun (h c).2.2.2.2.2.2.2.2.2.2 i)

end Cert.KernelIdeal.HostIn

end
-- ==== Proof.Equal.lean ====
/- The kernel's result and the reference's, one element at a time. -/
module

public import proofs.«01_k».proof.Proof.Array
public import proofs.«01_k».proof.Proof.RefNorm
public import proofs.«01_k».proof.Proof.Pre

@[expose] public section

set_option maxRecDepth 16384

noncomputable section

namespace Cert.KernelIdeal.Equal

open Cert.KernelIdeal Cert.KernelIdeal.Gen Cert.KernelIdeal.HostIn Cert.KernelIdeal.Array Cert.Token Idealize.ShloMosaic
  Idealize.ShloMosaic.TcCoe Idealize.SL.Sem

variable {m : (ℓ : Loc nD τ sig) → Buf (Elt Ideal) ℓ} (h : Pre_KernelIdeal_tame (hPre_tame := Cert.Pre_tame.facts) m) (c : Dev nD)

/-- The reference's linear layer at one token whose note is row `n`, over the arguments. -/
def lin (m : (ℓ : Loc nD τ sig) → Buf (Elt Ideal) ℓ) (c : Dev nD) (n : Fin 91) (b : Fin 4096) (l : Fin 200) (j : Fin 64) : EReal :=
  rLin (fun k => table m c (ix2 n k)) (fun k => onsetW m c (ix2 0 k)) (fun k => onsetB m c (ix1 k)) (fun k => durW m c (ix2 0 k))
    (fun k => durB m c (ix1 k)) (fun k => denseW m c (ix2 k j)) (denseB m c (ix1 j)) (onsets m c (ix3 b l 0)) (durations m c (ix3 b l 0))

include h

/-- The kernel's linear layer is the reference's. -/
theorem lin_eq (n : Fin 91) (b : Fin 4096) (l : Fin 200) (hn : notes m c (ix3 b l 0) = BitVec.ofNat 32 n) (j : Fin 64) :
    kLin (fun k => ∑ d : Fin 16, padded m c (ix2 k d) * noteW m c (ix2 d j)) (onsetV m c (ix2 0 j)) (durV m c (ix2 0 j))
      (biasV m c (ix2 0 j)) (notesT m c (ix3 l 0 b)) (onsetsT m c (ix3 l 0 b)) (durationsT m c (ix3 l 0 b)) = lin m c n b l j := by
  have en : notesT m c (ix3 l 0 b) = BitVec.ofNat 32 n := (notes_at m c l b).trans hn
  have eo : onsetsT m c (ix3 l 0 b) = onsets m c (ix3 b l 0) := onsets_at m c l b
  have ed : durationsT m c (ix3 l 0 b) = durations m c (ix3 b l 0) := durations_at m c l b
  have ev : onsetV m c (ix2 0 j) = _ := onset_row_at m c j
  have ew : durV m c (ix2 0 j) = _ := dur_row_at m c j
  have eb : biasV m c (ix2 0 j) = _ := bias_row_at m c j
  have hft : (∑ d : Fin 16, padded m c (ix2 ⟨n, by omega⟩ d) * noteW m c (ix2 d j))
      = ∑ d : Fin 16, ((EReal.toReal (table m c (ix2 n d)) : ℝ) : EReal) * ((EReal.toReal (denseW m c (ix2 (noteRow d) j)) : ℝ) : EReal) :=
    Finset.sum_congr rfl fun d _ => by
      rw [← table_real h, ← denseW_real h]
      exact congrArg₂ (fun x y : EReal => x * y) (table_at m c ⟨n, by omega⟩ n.isLt d) (weights_at m c d j)
  have key := kLin_eq (fun k => ∑ d : Fin 16, padded m c (ix2 k d) * noteW m c (ix2 d j)) n
    (fun k => EReal.toReal (table m c (ix2 n k))) (fun k => EReal.toReal (onsetW m c (ix2 0 k))) (fun k => EReal.toReal (onsetB m c (ix1 k)))
    (fun k => EReal.toReal (durW m c (ix2 0 k))) (fun k => EReal.toReal (durB m c (ix1 k))) (fun k => EReal.toReal (denseW m c (ix2 k j)))
    (EReal.toReal (denseB m c (ix1 j))) (EReal.toReal (onsets m c (ix3 b l 0))) (EReal.toReal (durations m c (ix3 b l 0))) hft
  simp only [← table_real h, ← denseW_real h, ← onsetW_real h, ← onsetB_real h, ← durW_real h, ← durB_real h, ← denseB_real h,
    ← onsets_real h, ← durations_real h] at key
  rw [en, eo, ed, ev, ew, eb]
  exact key

/-- The linear layer is real at every channel. -/
theorem lin_real (n : Fin 91) (b : Fin 4096) (l : Fin 200) (j : Fin 64) : ∃ z : ℝ, lin m c n b l j = z := by
  have key := rLin_coe
    (fun k => EReal.toReal (table m c (ix2 n k))) (fun k => EReal.toReal (onsetW m c (ix2 0 k))) (fun k => EReal.toReal (onsetB m c (ix1 k)))
    (fun k => EReal.toReal (durW m c (ix2 0 k))) (fun k => EReal.toReal (durB m c (ix1 k))) (fun k => EReal.toReal (denseW m c (ix2 k j)))
    (EReal.toReal (denseB m c (ix1 j))) (EReal.toReal (onsets m c (ix3 b l 0))) (EReal.toReal (durations m c (ix3 b l 0)))
  simp only [← table_real h, ← denseW_real h, ← onsetW_real h, ← onsetB_real h, ← durW_real h, ← durB_real h, ← denseB_real h,
    ← onsets_real h, ← durations_real h] at key
  exact ⟨_, key⟩

/-- The kernel's element is the reference's layer normalisation of its activated linear layer. -/
theorem token_eq (n : Fin 91) (b : Fin 4096) (l : Fin 200) (hn : notes m c (ix3 b l 0) = BitVec.ofNat 32 n) (j : Fin 64) :
    tokenAt m c l j b
      = rNorm (fun k => leaky (slope m c ix0) (lin m c n b l k)) (gamma m c (ix1 j)) (beta m c (ix1 j)) j := by
  have es : slopeV m c (ix2 0 0) = slope m c ix0 := slope_at m c
  have eg : gammaV m c (ix2 j b) = gamma m c (ix1 j) := gamma_at m c j b
  have et : betaV m c (ix2 j b) = beta m c (ix1 j) := beta_at m c j b
  unfold tokenAt kOut
  rw [es, eg, et]
  simp only [lin_eq h c n b l hn]
  choose z hz using lin_real h c n b l
  simp only [hz]
  rw [slope_real h c ix0]
  simp only [leaky_coe]
  exact kNorm_eq _ _ _ _

/-- The kernel's result, at one element, is the reference's function of the arguments. -/
theorem value_eq (b : Fin 4096) (l : Fin 200) (j : Fin 64) :
    (Pipeline.afterTail₀ cfgs (dats m) 0 (V0 m) [hostOps1] c main_v24 (ix3 b l j) : EReal)
      = Cert.ReferenceIdeal.Read.val_main_v37 (F := Ideal) (notes m c) (onsets m c) (durations m c) (table m c) (onsetW m c) (onsetB m c)
          (durW m c) (durB m c) (denseW m c) (denseB m c) (slope m c) (gamma m c) (beta m c) (ix3 b l j) := by
  obtain ⟨n, hn⟩ := notes_row h c (ix3 b l 0)
  rw [result_at, token_eq h c n b l hn, Cert.ReferenceIdeal.Ref.norm_at]
  simp only [Cert.ReferenceIdeal.Ref.leaky_at, Cert.ReferenceIdeal.Ref.lin_at _ _ _ _ _ _ _ _ _ _ b l _ n hn]
  rfl

end Cert.KernelIdeal.Equal

end
-- ==== Proof.lean ====
/- The claim: the frames of the kernel and of the reference, and that the two leave the same result. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Equal
public import Idealize.ShloMosaic.Lib.Quiescent

@[expose] public section

set_option maxRecDepth 16384

noncomputable section

namespace Cert.Proof

open Idealize.ShloMosaic Idealize.SL.Sem

/-- The reference leaves its arguments unchanged and every counter at zero, from every initial memory. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems rfl r.2⟩)
    (Cert.ReferenceIdeal.Value.run m ρ)

/-- The array the kernel's run ends with, on one device. -/
def value (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v24) :=
  Pipeline.afterTail₀ Cert.KernelIdeal.cfgs (Cert.KernelIdeal.Gen.dats m) 0 (Cert.KernelIdeal.Gen.V0 m)
    [Cert.KernelIdeal.Gen.hostOps1] c Cert.KernelIdeal.main_v24

/-- From memories that agree on the arguments, where the precondition holds, the reference's result is the kernel's. -/
theorem reference_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal_tame (hPre_tame := Cert.Pre_tame.facts) m) (c : Dev Cert.KernelIdeal.nD)
    (h0 : m' ((c.tc : Thread Cert.ReferenceIdeal.nD Cert.ReferenceIdeal.τ).loc Cert.ReferenceIdeal.main_arg0) = Cert.KernelIdeal.HostIn.notes m c)
    (h1 : m' ((c.tc : Thread Cert.ReferenceIdeal.nD Cert.ReferenceIdeal.τ).loc Cert.ReferenceIdeal.main_arg1) = Cert.KernelIdeal.HostIn.onsets m c)
    (h2 : m' ((c.tc : Thread Cert.ReferenceIdeal.nD Cert.ReferenceIdeal.τ).loc Cert.ReferenceIdeal.main_arg2) = Cert.KernelIdeal.HostIn.durations m c)
    (h4 : m' ((c.tc : Thread Cert.ReferenceIdeal.nD Cert.ReferenceIdeal.τ).loc Cert.ReferenceIdeal.main_arg4) = Cert.KernelIdeal.HostIn.table m c)
    (h5 : m' ((c.tc : Thread Cert.ReferenceIdeal.nD Cert.ReferenceIdeal.τ).loc Cert.ReferenceIdeal.main_arg5) = Cert.KernelIdeal.HostIn.onsetW m c)
    (h6 : m' ((c.tc : Thread Cert.ReferenceIdeal.nD Cert.ReferenceIdeal.τ).loc Cert.ReferenceIdeal.main_arg6) = Cert.KernelIdeal.HostIn.onsetB m c)
    (h7 : m' ((c.tc : Thread Cert.ReferenceIdeal.nD Cert.ReferenceIdeal.τ).loc Cert.ReferenceIdeal.main_arg7) = Cert.KernelIdeal.HostIn.durW m c)
    (h8 : m' ((c.tc : Thread Cert.ReferenceIdeal.nD Cert.ReferenceIdeal.τ).loc Cert.ReferenceIdeal.main_arg8) = Cert.KernelIdeal.HostIn.durB m c)
    (h9 : m' ((c.tc : Thread Cert.ReferenceIdeal.nD Cert.ReferenceIdeal.τ).loc Cert.ReferenceIdeal.main_arg9) = Cert.KernelIdeal.HostIn.denseW m c)
    (h10 : m' ((c.tc : Thread Cert.ReferenceIdeal.nD Cert.ReferenceIdeal.τ).loc Cert.ReferenceIdeal.main_arg10) = Cert.KernelIdeal.HostIn.denseB m c)
    (h11 : m' ((c.tc : Thread Cert.ReferenceIdeal.nD Cert.ReferenceIdeal.τ).loc Cert.ReferenceIdeal.main_arg11) = Cert.KernelIdeal.HostIn.slope m c)
    (h12 : m' ((c.tc : Thread Cert.ReferenceIdeal.nD Cert.ReferenceIdeal.τ).loc Cert.ReferenceIdeal.main_arg12) = Cert.KernelIdeal.HostIn.gamma m c)
    (h13 : m' ((c.tc : Thread Cert.ReferenceIdeal.nD Cert.ReferenceIdeal.τ).loc Cert.ReferenceIdeal.main_arg13) = Cert.KernelIdeal.HostIn.beta m c) :
    Cert.ReferenceIdeal.Value.res_main_v37 m' c = value m c := by
  rw [Cert.ReferenceIdeal.Read.val_main_v37_eq m' c, h0, h1, h2, h4, h5, h6, h7, h8, h9, h10, h11, h12, h13]
  refine funext fun (i : Cert.KernelIdeal.S4096x200x64.Idx) => ?_
  rw [ValueIdx.eq_ix3 i]
  exact (Cert.KernelIdeal.Equal.value_eq hpre c _ _ _).symm

/-- From memories that agree on the arguments, where the precondition holds, the kernel and the reference end with the same result
    and leave their arguments unchanged. -/
theorem equal : Cert.algebraic_KernelIdeal_ReferenceIdeal_pre_tame (hKernelIdeal := Cert.KernelIdeal.Gen.facts)
    (hReferenceIdeal := Cert.ReferenceIdeal.Gen.facts) (hPre_tame := Cert.Pre_tame.facts) := by
  intro m g m' g' hpre hargs
  refine ⟨value m, ?_, ?_⟩
  · exact (θ_run Cert.KernelIdeal.defs _ _).mono (fun r h c => ⟨Pipeline.FramePost.rest_eq h.1 c Cert.KernelIdeal.main_v24 (by decide), h.2 c⟩)
      (θ_run_and (Cert.KernelIdeal.Gen.run_main m g) (Cert.KernelIdeal.Gen.unchanged m g))
  · refine (θ_run Cert.ReferenceIdeal.defs _ _).mono (fun r h c => ⟨(h c).1.trans ?_, (h c).2⟩) (Cert.ReferenceIdeal.Value.run m' g')
    obtain ⟨h0, h1, h2, -, h4, h5, h6, h7, h8, h9, h10, h11, h12, h13⟩ := hargs c
    exact reference_value m m' hpre c h0 h1 h2 h4 h5 h6 h7 h8 h9 h10 h11 h12 h13

/-- Everything claimed. -/
theorem claim : Cert.Claim :=
  ⟨Cert.Kernel.Gen.facts, Cert.KernelIdeal.Gen.facts, Cert.ReferenceIdeal.Gen.facts, Cert.Pre_tame.facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial, trivial, equal⟩

end Cert.Proof

end
